-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1024x2048 : S_.BroadcastsInDim S1024x2048 (![] : Fin 0 → Fin S1024x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1024x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S1024x2048 1 × IVec S2048x128 1 × IVec S128x2048 1 × IVec S2048x2048 1 × IVec S2048x512 1 × IVec S2048x32 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := Host.absf main_arg2
  let main_cst_1 : FVec F S_ .f32 := constant S_ .f32 0x7F800000#32
  let main_v7 : FVec F S128x2048 .f32 := broadcastInDim S128x2048 ![] bcast_S_S128x2048 main_cst_1
  let main_v8 : IVec S128x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Pre_finite_ReferenceIdeal.lean ====
abbrev S1024x2048 : Shape := ⟨2, ![1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1024x2048 : S_.BroadcastsInDim S1024x2048 (![] : Fin 0 → Fin S1024x2048.rank)
  bcast_S_S2048x256 : S_.BroadcastsInDim S2048x256 (![] : Fin 0 → Fin S2048x256.rank)
  bcast_S_S256x2048 : S_.BroadcastsInDim S256x2048 (![] : Fin 0 → Fin S256x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1024x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S1024x2048 1 × IVec S2048x256 1 × IVec S256x2048 1 × IVec S2048x2048 1 × IVec S2048x512 1 × IVec S2048x32 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S256x2048 .f32 := Host.absf main_arg2
  let main_cst_1 : FVec F S_ .f32 := constant S_ .f32 0x7F800000#32
  let main_v7 : FVec F S256x2048 .f32 := broadcastInDim S256x2048 ![] bcast_S_S256x2048 main_cst_1
  let main_v8 : IVec S256x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S1024x2048 : Shape := ⟨2, ![1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x128 : Shape := ⟨2, ![1024, 128]⟩
abbrev S128x512 : Shape := ⟨2, ![128, 512]⟩
abbrev S1024x512 : Shape := ⟨2, ![1024, 512]⟩
abbrev S2x512x2048 : Shape := ⟨3, ![2, 512, 2048]⟩
abbrev S15 : Shape := ⟨1, ![15]⟩
abbrev S4 : Shape := ⟨1, ![4]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1024x32 : Shape := ⟨2, ![1024, 32]⟩
abbrev S1024x160 : Shape := ⟨2, ![1024, 160]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .local _ .vmem, ⟨0, _⟩ => ⟨S1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x32, .f32⟩
  | .local _ .vmem, ⟨5, _⟩ => ⟨S1024x2048, .f32⟩
  | .local _ .vmem, ⟨6, _⟩ => ⟨S1024x128, .bf16⟩
  | .local _ .vmem, ⟨7, _⟩ => ⟨S1024x128, .bf16⟩
  | .local _ .vmem, ⟨8, _⟩ => ⟨S128x512, .f32⟩
  | .local _ .vmem, ⟨9, _⟩ => ⟨S128x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .f32⟩
  | .local _ .vmem, ⟨15, _⟩ => ⟨S2048x128, .f32⟩
  | .local _ .vmem, ⟨16, _⟩ => ⟨S2x512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_14 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  let v10 : BitVec 32 := Scalar.addi v8 v9
  ![0, v10.toNat]
def k0_off2 (d0 : Dev nD) : Fin 2 → Nat :=
  let c0_i32_15 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v27 : BitVec 32 := Scalar.muli v5 c8_i32
  let c32_i32 : BitVec 32 := 32#32
  let v28 : BitVec 32 := Scalar.muli v27 c32_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c128_i32 : BitVec 32 := 128#32
  let v29 : BitVec 32 := Scalar.muli v2 c128_i32
  let v30 : BitVec 32 := Scalar.addi v28 v29
  ![0, v30.toNat]
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  let v10 : BitVec 32 := Scalar.addi v8 v9
  let c0_i32_20 : BitVec 32 := 0#32
  ![v10.toNat, 0]
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_4 : BitVec 32 := 1024#32
  let v11 : BitVec 32 := Scalar.muli v5 c1024_i32_4
  let c1_i32_5 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_5 v2
  let c512_i32_6 : BitVec 32 := 512#32
  let v13 : BitVec 32 := Scalar.muli v12 c512_i32_6
  let v14 : BitVec 32 := Scalar.addi v11 v13
  let c0_i32_25 : BitVec 32 := 0#32
  ![v14.toNat, 0]
def k0_dev1 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v45 : BitVec 32 := Scalar.muli v2 c2_i32_27
  let v46 : BitVec 32 := Scalar.addi c0_i32_28 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v47 : BitVec 32 := Scalar.muli v6 c1_i32_29
  let v48 : BitVec 32 := Scalar.addi v46 v47
  v48.toNat
def k0_dev2 (d0 : Dev nD) : Nat :=
  let c0_i32_32 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_31 : BitVec 32 := 2#32
  let v49 : BitVec 32 := Scalar.muli v7 c2_i32_31
  let v50 : BitVec 32 := Scalar.addi c0_i32_32 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v51 : BitVec 32 := Scalar.muli v5 c1_i32_33
  let v52 : BitVec 32 := Scalar.addi v50 v51
  v52.toNat
def k0_off5 (d0 : Dev nD) : Fin 2 → Nat :=
  let c0_i32_40 : BitVec 32 := 0#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.subi c1_i32_7 v5
  let c1024_i32_8 : BitVec 32 := 1024#32
  let v16 : BitVec 32 := Scalar.muli v15 c1024_i32_8
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_9 : BitVec 32 := 512#32
  let v17 : BitVec 32 := Scalar.muli v2 c512_i32_9
  let v18 : BitVec 32 := Scalar.addi v16 v17
  ![0, v18.toNat]
def k0_dev3 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v53 : BitVec 32 := Scalar.muli v2 c2_i32_37
  let v54 : BitVec 32 := Scalar.addi c0_i32_38 v53
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v55 : BitVec 32 := Scalar.muli v6 c1_i32_39
  let v56 : BitVec 32 := Scalar.addi v54 v55
  v56.toNat
def k0_dev4 (d0 : Dev nD) : Nat :=
  let c0_i32_44 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_43 : BitVec 32 := 2#32
  let v62 : BitVec 32 := Scalar.muli v2 c2_i32_43
  let v63 : BitVec 32 := Scalar.addi c0_i32_44 v62
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_45 : BitVec 32 := 1#32
  let v64 : BitVec 32 := Scalar.muli v6 c1_i32_45
  let v65 : BitVec 32 := Scalar.addi v63 v64
  v65.toNat
def k0_dev5 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v82 : BitVec 32 := Scalar.muli v2 c2_i32_54
  let v83 : BitVec 32 := Scalar.addi c0_i32_55 v82
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v84 : BitVec 32 := Scalar.muli v6 c1_i32_56
  let v85 : BitVec 32 := Scalar.addi v83 v84
  v85.toNat
def k0_off6 (d0 : Dev nD) : Fin 2 → Nat :=
  let c0_102 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  let v10 : BitVec 32 := Scalar.addi v8 v9
  let v146 : Index := Scalar.indexCast v10
  ![0, v146.toNat]
def k0_dev6 (d0 : Dev nD) : Nat :=
  let c0_i32_119 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_118 : BitVec 32 := 2#32
  let v184 : BitVec 32 := Scalar.muli v7 c2_i32_118
  let v185 : BitVec 32 := Scalar.addi c0_i32_119 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v186 : BitVec 32 := Scalar.muli v5 c1_i32_120
  let v187 : BitVec 32 := Scalar.addi v185 v186
  v187.toNat
def k0_dev7 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v194 : BitVec 32 := Scalar.muli v2 c2_i32_127
  let v195 : BitVec 32 := Scalar.addi c0_i32_128 v194
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_129 : BitVec 32 := 1#32
  let v196 : BitVec 32 := Scalar.muli v6 c1_i32_129
  let v197 : BitVec 32 := Scalar.addi v195 v196
  v197.toNat
def k0_dev8 (d0 : Dev nD) : Nat :=
  let c0_i32_141 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_140 : BitVec 32 := 2#32
  let v222 : BitVec 32 := Scalar.muli v7 c2_i32_140
  let v223 : BitVec 32 := Scalar.addi c0_i32_141 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v224 : BitVec 32 := Scalar.muli v5 c1_i32_142
  let v225 : BitVec 32 := Scalar.addi v223 v224
  v225.toNat
def k0_dev9 (d0 : Dev nD) : Nat :=
  let c0_i32_149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_148 : BitVec 32 := 2#32
  let v232 : BitVec 32 := Scalar.muli v2 c2_i32_148
  let v233 : BitVec 32 := Scalar.addi c0_i32_149 v232
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_150 : BitVec 32 := 1#32
  let v234 : BitVec 32 := Scalar.muli v6 c1_i32_150
  let v235 : BitVec 32 := Scalar.addi v233 v234
  v235.toNat
def k0_dev10 (d0 : Dev nD) : Nat :=
  let c0_i32_161 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_160 : BitVec 32 := 2#32
  let v260 : BitVec 32 := Scalar.muli v7 c2_i32_160
  let v261 : BitVec 32 := Scalar.addi c0_i32_161 v260
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_162 : BitVec 32 := 1#32
  let v262 : BitVec 32 := Scalar.muli v5 c1_i32_162
  let v263 : BitVec 32 := Scalar.addi v261 v262
  v263.toNat
def k0_dev11 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v270 : BitVec 32 := Scalar.muli v2 c2_i32_167
  let v271 : BitVec 32 := Scalar.addi c0_i32_168 v270
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_169 : BitVec 32 := 1#32
  let v272 : BitVec 32 := Scalar.muli v6 c1_i32_169
  let v273 : BitVec 32 := Scalar.addi v271 v272
  v273.toNat
def k0_dev12 (d0 : Dev nD) : Nat :=
  let c0_i32_180 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_179 : BitVec 32 := 2#32
  let v298 : BitVec 32 := Scalar.muli v7 c2_i32_179
  let v299 : BitVec 32 := Scalar.addi c0_i32_180 v298
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_181 : BitVec 32 := 1#32
  let v300 : BitVec 32 := Scalar.muli v5 c1_i32_181
  let v301 : BitVec 32 := Scalar.addi v299 v300
  v301.toNat
def k0_dev13 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v308 : BitVec 32 := Scalar.muli v2 c2_i32_186
  let v309 : BitVec 32 := Scalar.addi c0_i32_187 v308
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_188 : BitVec 32 := 1#32
  let v310 : BitVec 32 := Scalar.muli v6 c1_i32_188
  let v311 : BitVec 32 := Scalar.addi v309 v310
  v311.toNat
def k0_off7 (d0 : Dev nD) : Fin 2 → Nat :=
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.subi c1_i32_7 v5
  let c1024_i32_8 : BitVec 32 := 1024#32
  let v16 : BitVec 32 := Scalar.muli v15 c1024_i32_8
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_9 : BitVec 32 := 512#32
  let v17 : BitVec 32 := Scalar.muli v2 c512_i32_9
  let v18 : BitVec 32 := Scalar.addi v16 v17
  let c0_i32_208 : BitVec 32 := 0#32
  ![v18.toNat, 0]
def k0_dev14 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v345 : BitVec 32 := Scalar.muli v2 c2_i32_226
  let v346 : BitVec 32 := Scalar.addi c0_i32_227 v345
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_228 : BitVec 32 := 1#32
  let v347 : BitVec 32 := Scalar.muli v6 c1_i32_228
  let v348 : BitVec 32 := Scalar.addi v346 v347
  v348.toNat
def k0_dev15 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v367 : BitVec 32 := Scalar.muli v2 c2_i32_250
  let v368 : BitVec 32 := Scalar.addi c0_i32_251 v367
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_252 : BitVec 32 := 1#32
  let v369 : BitVec 32 := Scalar.muli v6 c1_i32_252
  let v370 : BitVec 32 := Scalar.addi v368 v369
  v370.toNat
def k0_dev16 (d0 : Dev nD) : Nat :=
  let c0_i32_275 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_274 : BitVec 32 := 2#32
  let v389 : BitVec 32 := Scalar.muli v2 c2_i32_274
  let v390 : BitVec 32 := Scalar.addi c0_i32_275 v389
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_276 : BitVec 32 := 1#32
  let v391 : BitVec 32 := Scalar.muli v6 c1_i32_276
  let v392 : BitVec 32 := Scalar.addi v390 v391
  v392.toNat
def k0_dev17 (d0 : Dev nD) : Nat :=
  let c0_i32_299 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_298 : BitVec 32 := 2#32
  let v411 : BitVec 32 := Scalar.muli v2 c2_i32_298
  let v412 : BitVec 32 := Scalar.addi c0_i32_299 v411
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_300 : BitVec 32 := 1#32
  let v413 : BitVec 32 := Scalar.muli v6 c1_i32_300
  let v414 : BitVec 32 := Scalar.addi v412 v413
  v414.toNat
def k0_off8 (d0 : Dev nD) : Fin 2 → Nat :=
  let c1_i32_10 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_10 v5
  let c1024_i32_11 : BitVec 32 := 1024#32
  let v20 : BitVec 32 := Scalar.muli v19 c1024_i32_11
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_12 v2
  let c512_i32_13 : BitVec 32 := 512#32
  let v22 : BitVec 32 := Scalar.muli v21 c512_i32_13
  let v23 : BitVec 32 := Scalar.addi v20 v22
  let c0_i32_319 : BitVec 32 := 0#32
  ![v23.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x2048 : Shape := ⟨2, ![1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S1024x256 : Shape := ⟨2, ![1024, 256]⟩
abbrev S1024x16x128 : Shape := ⟨3, ![1024, 16, 128]⟩
abbrev S1024x512 : Shape := ⟨2, ![1024, 512]⟩
abbrev S1024x16x32 : Shape := ⟨3, ![1024, 16, 32]⟩
abbrev S1024x32 : Shape := ⟨2, ![1024, 32]⟩
abbrev S1024x1x32 : Shape := ⟨3, ![1024, 1, 32]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S16x128x1024 : Shape := ⟨3, ![16, 128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x256, .f32⟩
  | .hbm, ⟨9, _⟩ => ⟨S1024x2048, .f32⟩
  | .hbm, ⟨10, _⟩ => ⟨S1024x16x128, .f32⟩
  | .hbm, ⟨11, _⟩ => ⟨S1024x2048, .f32⟩
  | .hbm, ⟨12, _⟩ => ⟨S1024x16x128, .f32⟩
  | .hbm, ⟨13, _⟩ => ⟨S1024x2048, .f32⟩
  | .hbm, ⟨14, _⟩ => ⟨S1024x16x128, .f32⟩
  | .hbm, ⟨15, _⟩ => ⟨S1024x512, .f32⟩
  | .hbm, ⟨16, _⟩ => ⟨S1024x16x32, .f32⟩
  | .hbm, ⟨17, _⟩ => ⟨S1024x32, .f32⟩
  | .hbm, ⟨18, _⟩ => ⟨S1024x1x32, .f32⟩
  | .hbm, ⟨19, _⟩ => ⟨S16x1024x1024, .f32⟩
  | .hbm, ⟨20, _⟩ => ⟨S1024x16x32, .f32⟩
  | .hbm, ⟨21, _⟩ => ⟨S16x1024x1024, .f32⟩
  | .hbm, ⟨22, _⟩ => ⟨S16x1024x1024, .f32⟩
  | .hbm, ⟨23, _⟩ => ⟨S_, .f32⟩
  | .hbm, ⟨24, _⟩ => ⟨S16x1024x1024, .f32⟩
  | .hbm, ⟨25, _⟩ => ⟨S16x1024x1024, .f32⟩
  | .hbm, ⟨26, _⟩ => ⟨S_, .f32⟩
  | .hbm, ⟨27, _⟩ => ⟨S16x1024, .f32⟩
  | .hbm, ⟨28, _⟩ => ⟨S16x1024x1, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | .hbm, ⟨32, _⟩ => ⟨S_, .f32⟩
  | .hbm, ⟨33, _⟩ => ⟨S16x1024, .f32⟩
  | .hbm, ⟨34, _⟩ => ⟨S16x1024x1, .f32⟩
  | .hbm, ⟨35, _⟩ => ⟨S16x1024x1024, .f32⟩
  | .hbm, ⟨36, _⟩ => ⟨S16x1024x1024, .f32⟩
  | .hbm, ⟨37, _⟩ => ⟨S16x128x1024, .f32⟩
  | .hbm, ⟨38, _⟩ => ⟨S1024x16x128, .f32⟩
  | .hbm, ⟨39, _⟩ => ⟨S1024x2048, .f32⟩
  | .hbm, ⟨40, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Mesh.lean ====
/-
# The mesh, the buffers and the cells

Four devices on a 2 × 2 mesh. A device has two neighbours: `yp c`, which differs from `c` in the
second mesh axis, and `xn c`, which differs in the first. The kernel makes fifteen transfers, numbered
as its semaphore arrays are: transfer `i` signals the sender's send semaphore `i` and the receiver's
receive semaphore `i`. Every transfer goes to one of the two neighbours, and both maps are involutions,
so device `c` receives transfer `i` from the very device `peer i c` it sends its own transfer `i` to.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours -/

set_option backward.proofsInPublic true in
/-- The neighbour along the second mesh axis. -/
def yp (c : Dev nD) : Dev nD := ⟨(2 * (c.val / 2) + 1) - c.val % 2, by revert c; decide⟩
set_option backward.proofsInPublic true in
/-- The neighbour along the first mesh axis. -/
def xn (c : Dev nD) : Dev nD := ⟨(c.val % 2 + 2) - 2 * (c.val / 2), by revert c; decide⟩

theorem yp_yp (c : Dev nD) : yp (yp c) = c := by revert c; decide
theorem xn_xn (c : Dev nD) : xn (xn c) = c := by revert c; decide
theorem yp_ne_xn (c : Dev nD) : yp c ≠ xn c := by revert c; decide
theorem yp_xn (c : Dev nD) : yp (xn c) = xn (yp c) := by revert c; decide

/-- The device transfer `i` of device `c` goes to. -/
def peer (i : Fin 15) (c : Dev nD) : Dev nD := if 7 ≤ i.val ∧ i.val ≤ 10 then xn c else yp c

theorem peer_peer (i : Fin 15) (c : Dev nD) : peer i (peer i c) = c := by revert i c; decide

/-! ## Semaphores -/

set_option backward.proofsInPublic true in
def sendS (i : Fin 15) : DmaSem sig := ⟨6 + i.val, by have := i.isLt; show _ < 40; omega⟩
set_option backward.proofsInPublic true in
def recvS (i : Fin 15) : DmaSem sig := ⟨21 + i.val, by have := i.isLt; show _ < 40; omega⟩
set_option backward.proofsInPublic true in
def locS (i : Fin 4) : DmaSem sig := ⟨36 + i.val, by have := i.isLt; show _ < 40; omega⟩
/-- The barrier semaphore of the kernel's collective id. -/
abbrev barS : Sem sig := (SemArray.scalar (sig.barrier 0 rfl) : Sems sig S_).sem

/-- The cells the protocol runs on: the barrier, and for each transfer its send and receive cell
    (`true`: receive). -/
abbrev CI : Type := Option (Bool × Fin 15)

def csem : CI → SemLoc sig
  | none => .reg barS
  | some (false, i) => .dma (sendS i)
  | some (true, i) => .dma (recvS i)

set_option backward.proofsInPublic true in
/-- Which of the protocol's cells a semaphore is. -/
def decode : SemLoc sig → Option CI
  | .reg _ => some none
  | .dma q =>
    if h : 6 ≤ q.val ∧ q.val < 21 then some (some (false, ⟨q.val - 6, by omega⟩))
    else if h : 21 ≤ q.val ∧ q.val < 36 then some (some (true, ⟨q.val - 21, by omega⟩))
    else none

theorem decode_csem : ∀ k : CI, decode (csem k) = some k := by decide
theorem csem_injective : Function.Injective csem := fun a b h =>
  Option.some.inj ((decode_csem a).symm.trans ((congrArg decode h).trans (decode_csem b)))

abbrev kcell (ck : Dev nD × CI) : GSem nD τ sig := ((ck.1 : Thread nD τ), csem ck.2)
abbrev barCell (c : Dev nD) : GSem nD τ sig := kcell (c, none)
abbrev sendCell (c : Dev nD) (i : Fin 15) : GSem nD τ sig := kcell (c, some (false, i))
abbrev recvCell (c : Dev nD) (i : Fin 15) : GSem nD τ sig := kcell (c, some (true, i))

theorem kcell_injective : Function.Injective (kcell : Dev nD × CI → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-! ## The memrefs -/

/-- The staging buffers of `x`, `Wdkv`, `Wuk`, `Wuv`, `Wkr` and the result. -/
abbrev xM : Memref sig .tc .vmem S1024x2048 .f32 := Memref.whole cc0_stg0_0
abbrev dkvM : Memref sig .tc .vmem S2048x128 .f32 := Memref.whole cc0_stg1_0
abbrev ukM : Memref sig .tc .vmem S128x2048 .f32 := Memref.whole cc0_stg2_0
abbrev uvM : Memref sig .tc .vmem S128x2048 .f32 := Memref.whole cc0_stg3_0
abbrev krM : Memref sig .tc .vmem S2048x32 .f32 := Memref.whole cc0_stg4_0
abbrev outM : Memref sig .tc .vmem S1024x2048 .f32 := Memref.whole cc0_stg5_0
/-- The weights left in HBM: `Wq`, `Wqr`, `Wo`. -/
abbrev qH : Memref sig .tc .hbm S2048x2048 .f32 := Memref.whole main_arg4
abbrev qrH : Memref sig .tc .hbm S2048x512 .f32 := Memref.whole main_arg5
abbrev oH : Memref sig .tc .hbm S2048x2048 .f32 := Memref.whole main_arg7
/-- The scratch buffers: the compressed activations sent and received, the received halves of `Wuk` and `Wuv`, the
    attention output computed here and the three received, the local copies of `Wq`, `Wqr` and (two slots) `Wo`. -/
abbrev csM : Memref sig .tc .vmem S1024x128 .bf16 := Memref.whole cc0_scratch0
abbrev crM : Memref sig .tc .vmem S1024x128 .bf16 := Memref.whole cc0_scratch1
abbrev ukrM : Memref sig .tc .vmem S128x512 .f32 := Memref.whole cc0_scratch2
abbrev uvrM : Memref sig .tc .vmem S128x512 .f32 := Memref.whole cc0_scratch3
abbrev omM : Memref sig .tc .vmem S1024x512 .bf16 := Memref.whole cc0_scratch4
abbrev oxM : Memref sig .tc .vmem S1024x512 .bf16 := Memref.whole cc0_scratch5
abbrev opM : Memref sig .tc .vmem S1024x512 .bf16 := Memref.whole cc0_scratch6
abbrev odM : Memref sig .tc .vmem S1024x512 .bf16 := Memref.whole cc0_scratch7
abbrev wqM : Memref sig .tc .vmem S2048x512 .f32 := Memref.whole cc0_scratch8
abbrev wqrM : Memref sig .tc .vmem S2048x128 .f32 := Memref.whole cc0_scratch9
abbrev woM : Memref sig .tc .vmem S2x512x2048 .f32 := Memref.whole cc0_scratch10

/-- Columns `[128 h, 128 h + 128)` of a buffer of four heads. -/
abbrev hRect : Fin 4 → Rect S1024x512
  | 0 => Rect.unit (s := S1024x512) ![0, 0] S1024x128.size inb_S1024x512_S1024x128_0_0
  | 1 => Rect.unit (s := S1024x512) ![0, 128] S1024x128.size inb_S1024x512_S1024x128_0_128
  | 2 => Rect.unit (s := S1024x512) ![0, 256] S1024x128.size inb_S1024x512_S1024x128_0_256
  | 3 => Rect.unit (s := S1024x512) ![0, 384] S1024x128.size inb_S1024x512_S1024x128_0_384
/-- Slot `j` of the buffer of two slots. -/
abbrev wRect : Fin 2 → Rect S2x512x2048
  | 0 => Rect.unit (s := S2x512x2048) ![0, 0, 0] S1x512x2048.size inb_S2x512x2048_S1x512x2048_0_0_0
  | 1 => Rect.unit (s := S2x512x2048) ![1, 0, 0] S1x512x2048.size inb_S2x512x2048_S1x512x2048_1_0_0

end Cert.Mla

end
-- ==== Proof.Contents.lean ====
/-
# What every buffer holds, as a function of the memory at launch

The intermediate values of device `c` — its compressed activations, queries, keys and values, the attention output of its
four heads, and the result — as functions of the arguments of `c` and of its neighbours. The names of the payload
functions `k0_payN` are those of the program's own expressions.
-/
module

public import proofs.«01_k».proof.Proof.Mesh

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The staged arguments -/

def x0 (c : Dev nD) : Vec F S1024x2048 .f32 := (win0_0.blk (0 : Fin 1)).view.read (Elt F) (m ((c : Thread nD τ).loc main_arg0))
def dkv0 (c : Dev nD) : Vec F S2048x128 .f32 := (win0_1.blk (0 : Fin 1)).view.read (Elt F) (m ((c : Thread nD τ).loc main_arg1))
def uk0 (c : Dev nD) : Vec F S128x2048 .f32 := (win0_2.blk (0 : Fin 1)).view.read (Elt F) (m ((c : Thread nD τ).loc main_arg2))
def uv0 (c : Dev nD) : Vec F S128x2048 .f32 := (win0_3.blk (0 : Fin 1)).view.read (Elt F) (m ((c : Thread nD τ).loc main_arg3))
def kr0 (c : Dev nD) : Vec F S2048x32 .f32 := (win0_4.blk (0 : Fin 1)).view.read (Elt F) (m ((c : Thread nD τ).loc main_arg6))

/-! ## The parts of the weights a device uses -/

/-- The columns of `Wuk` (of `Wuv`) device `c` sends its neighbour along the second axis. -/
abbrev ukS (c : Dev nD) : Memref sig .tc .vmem S128x512 .f32 := ukM.slice (Rect.unit (s := S128x2048) (k0_off5 c) S128x512.size (k0_off5_inb c)) (fun _ => rfl)
abbrev uvS (c : Dev nD) : Memref sig .tc .vmem S128x512 .f32 := uvM.slice (Rect.unit (s := S128x2048) (k0_off5 c) S128x512.size (k0_off5_inb c)) (fun _ => rfl)
/-- The columns of `Wq` and `Wqr` of the heads of `c`. -/
abbrev qS (c : Dev nD) : Memref sig .tc .hbm S2048x512 .f32 := qH.slice (Rect.unit (s := S2048x2048) (k0_off1 c) S2048x512.size (k0_off1_inb c)) (fun _ => rfl)
abbrev qrS (c : Dev nD) : Memref sig .tc .hbm S2048x128 .f32 := qrH.slice (Rect.unit (s := S2048x512) (k0_off2 c) S2048x128.size (k0_off2_inb c)) (fun _ => rfl)
/-- The four row blocks of `Wo`: of the heads of `c`, of `xn c`, of `yp c`, of the device across. -/
abbrev oS1 (c : Dev nD) : Memref sig .tc .hbm S512x2048 .f32 := oH.slice (Rect.unit (s := S2048x2048) (k0_off3 c) S512x2048.size (k0_off3_inb c)) (fun _ => rfl)
abbrev oS2 (c : Dev nD) : Memref sig .tc .hbm S512x2048 .f32 := oH.slice (Rect.unit (s := S2048x2048) (k0_off4 c) S512x2048.size (k0_off4_inb c)) (fun _ => rfl)
abbrev oS3 (c : Dev nD) : Memref sig .tc .hbm S512x2048 .f32 := oH.slice (Rect.unit (s := S2048x2048) (k0_off7 c) S512x2048.size (k0_off7_inb c)) (fun _ => rfl)
abbrev oS4 (c : Dev nD) : Memref sig .tc .hbm S512x2048 .f32 := oH.slice (Rect.unit (s := S2048x2048) (k0_off8 c) S512x2048.size (k0_off8_inb c)) (fun _ => rfl)

/-- The half of `Wuk` (of `Wuv`) received: the other device's rows, at the columns of the heads of `c`. -/
def ukr (c : Dev nD) : Vec F S128x512 .f32 := (ukS (yp c)).view.read (Elt F) (uk0 m (yp c))
def uvr (c : Dev nD) : Vec F S128x512 .f32 := (uvS (yp c)).view.read (Elt F) (uv0 m (yp c))
/-- The half the device has itself. -/
def uko (c : Dev nD) : Vec F S128x512 .f32 := ukM.view.readAt (Elt F) (Rect.unit (s := S128x2048) (k0_off6 c) S128x512.size (k0_off6_inb c)).toLoadRect (uk0 m c)
def uvo (c : Dev nD) : Vec F S128x512 .f32 := uvM.view.readAt (Elt F) (Rect.unit (s := S128x2048) (k0_off6 c) S128x512.size (k0_off6_inb c)).toLoadRect (uv0 m c)
def wqv (c : Dev nD) : Vec F S2048x512 .f32 := (qS c).view.read (Elt F) (m ((c : Thread nD τ).loc main_arg4))
def wqrv (c : Dev nD) : Vec F S2048x128 .f32 := (qrS c).view.read (Elt F) (m ((c : Thread nD τ).loc main_arg5))

/-- A block of rows, as the one slot of a buffer of slots. -/
def slot (w : Vec F S512x2048 .f32) : Vec F S1x512x2048 .f32 := shapeCast S1x512x2048 w (by show _ = _; rfl)
def wo1 (c : Dev nD) : Vec F S1x512x2048 .f32 := slot ((oS1 c).view.read (Elt F) (m ((c : Thread nD τ).loc main_arg7)))
def wo2 (c : Dev nD) : Vec F S1x512x2048 .f32 := slot ((oS2 c).view.read (Elt F) (m ((c : Thread nD τ).loc main_arg7)))
def wo3 (c : Dev nD) : Vec F S1x512x2048 .f32 := slot ((oS3 c).view.read (Elt F) (m ((c : Thread nD τ).loc main_arg7)))
def wo4 (c : Dev nD) : Vec F S1x512x2048 .f32 := slot ((oS4 c).view.read (Elt F) (m ((c : Thread nD τ).loc main_arg7)))

/-! ## The values computed -/

/-- The compressed activations of `c`, sent to `yp c`; those received. -/
def cs (c : Dev nD) : Vec F S1024x128 .bf16 := k0_pay3 (x0 m c) (dkv0 m c)
def cr (c : Dev nD) : Vec F S1024x128 .bf16 := cs m (yp c)

def v73 (c : Dev nD) : FVec F S1024x2048 .bf16 := k0_pay1 (x0 m c)
def v78 (c : Dev nD) : FVec F S1024x128 .bf16 := k0_pay2 (x0 m c) (dkv0 m c)
def v108 (c : Dev nD) : FVec F S1024x32 .bf16 := k0_pay4 (v73 m c) (kr0 m c)
def v112 (c : Dev nD) : FVec F S1024x512 .bf16 := k0_pay5 (v73 m c) (wqv m c)
def v116 (c : Dev nD) : FVec F S1024x128 .bf16 := k0_pay6 (v73 m c) (wqrv m c)
def v155 (c : Dev nD) : FVec F S1024x512 .bf16 := k0_pay7 (v78 m c) (cr m c) (uko m c) (ukr m c)
def v159 (c : Dev nD) : FVec F S128x512 .bf16 := k0_pay8 (uvo m c)
def v165 (c : Dev nD) : FVec F S1024x512 .bf16 := k0_pay9 (v78 m c) (cr m c) (v159 m c) (uvr m c)

/-- The attention output of head `h` of device `c`. -/
def head (c : Dev nD) : Fin 4 → Vec F S1024x128 .bf16
  | 0 => k0_pay10 (v78 m c) (v108 m c) (v112 m c) (v116 m c) (cr m c) (v155 m c) (v159 m c) (uvr m c)
  | 1 => k0_pay11 (v108 m c) (v112 m c) (v116 m c) (v155 m c) (v165 m c)
  | 2 => k0_pay12 (v108 m c) (v112 m c) (v116 m c) (v155 m c) (v165 m c)
  | 3 => k0_pay13 (v108 m c) (v112 m c) (v116 m c) (v155 m c) (v165 m c)

/-- The column of a head a column of the four heads' buffer is. -/
def inHead (i : S1024x512.Idx) : S1024x128.Idx := fun a => match a with
  | ⟨0, _⟩ => (i 0 : Fin 1024)
  | ⟨1, _⟩ => (⟨(i 1).val % 128, Nat.mod_lt _ (by decide)⟩ : Fin 128)
def headOf (i : S1024x512.Idx) : Fin 4 := ⟨(i 1).val / 128, by have h : (i 1).val < 512 := (i 1).isLt; omega⟩

/-- The four heads side by side: what `c` sends. -/
def om (c : Dev nD) : Vec F S1024x512 .bf16 := fun i => head m c (headOf i) (inHead i)

/-- The result on device `c`: the four blocks of heads, each through its rows of `Wo`. -/
def res1 (c : Dev nD) : FVec F S1024x2048 .f32 := k0_pay14 (om m c) (wo1 m c)
def res2 (c : Dev nD) : FVec F S1024x2048 .f32 := k0_pay15 (res1 m c) (om m (xn c)) (wo2 m c)
def res3 (c : Dev nD) : FVec F S1024x2048 .f32 := k0_pay16 (res2 m c) (om m (yp c)) (wo3 m c)
def res (c : Dev nD) : FVec F S1024x2048 .f32 := k0_pay17 (res3 m c) (om m (xn (yp c))) (wo4 m c)

end Cert.Mla

end
-- ==== Proof.Protocol.lean ====
/-
# The protocol

One round per cell. The barrier cell of a device has two duties, one per neighbour, and a neighbour pays its own by
handing over the buffers the device's transfers to it will land in. The receive cell of a transfer has one duty, paid when the
transfer lands, and hands its owner the landing buffer with its contents; the send cell hands back the source.
-/
module

public import proofs.«01_k».proof.Proof.Contents

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra -/

abbrev UB : Type := URounds (GSem nD τ sig) Bool
abbrev UU : Type := UR sig nD τ × (UB × Counters)

local notation "𝕄" => MT nD τ sig Unit (Elt F) ℕ UU ℕ

/-- The staging pipeline's rounds are the left factor, -/
abbrev EP : Emb (UR sig nD τ) (MT nD τ sig Unit (Elt F) ℕ UU ℕ) := embL
/-- and the transfers' rounds the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The elements of memref `M` on device `c`, at share `q`, with the contents `f` of the whole buffer. -/
abbrev pts {sp : Space} {s : Shape} {e : EltTy} (M : Memref sig .tc sp s e) (c : Dev nD) (q : PosShare TreeShare)
    (f : Buf (Elt F) (M.view.loc (c : Thread nD τ))) : sProp 𝕄 := M.view.loc (c : Thread nD τ) ↦[M.view.set]{q} f

/-- Head `h` of a buffer of four heads. -/
abbrev hS (M : Memref sig .tc .vmem S1024x512 .bf16) : Fin 4 → Memref sig .tc .vmem S1024x128 .bf16
  | 0 => M.slice (Rect.unit (s := S1024x512) ![0, 0] S1024x128.size inb_S1024x512_S1024x128_0_0) (fun _ => rfl)
  | 1 => M.slice (Rect.unit (s := S1024x512) ![0, 128] S1024x128.size inb_S1024x512_S1024x128_0_128) (fun _ => rfl)
  | 2 => M.slice (Rect.unit (s := S1024x512) ![0, 256] S1024x128.size inb_S1024x512_S1024x128_0_256) (fun _ => rfl)
  | 3 => M.slice (Rect.unit (s := S1024x512) ![0, 384] S1024x128.size inb_S1024x512_S1024x128_0_384) (fun _ => rfl)

/-- The credits of the transfers: a half of `Wuk` or `Wuv`; a block of 128 columns. -/
def nA : ℕ := (ukrM : Memref sig .tc .vmem S128x512 .f32).view.dmaCredit
def nB : ℕ := (crM : Memref sig .tc .vmem S1024x128 .bf16).view.dmaCredit
theorem nA_pos : 0 < nA := View.dmaCredit_pos _ (by decide)
theorem nB_pos : 0 < nB := View.dmaCredit_pos _ (by decide)
def nOf (i : Fin 15) : ℕ := if i.val < 2 then nA else nB
theorem nOf_pos (i : Fin 15) : 0 < nOf i := by unfold nOf; split; exacts [nA_pos, nB_pos]

/-! ## What is handed over -/

def someF {sp : Space} {s : Shape} {e : EltTy} (M : Memref sig .tc sp s e) (c : Dev nD) : sProp 𝕄 :=
  iprop(∃ f : Buf (Elt F) (M.view.loc (c : Thread nD τ)), pts M c fullShare f)

/-- The buffer on `c` transfer `i` lands in, with any contents. -/
def landing (c : Dev nD) : Fin 15 → sProp 𝕄
  | 0 => someF ukrM c
  | 1 => someF uvrM c
  | 2 => someF crM c
  | 3 => someF (hS opM 0) c
  | 4 => someF (hS opM 1) c
  | 5 => someF (hS opM 2) c
  | 6 => someF (hS opM 3) c
  | 7 => someF (hS oxM 0) c
  | 8 => someF (hS oxM 1) c
  | 9 => someF (hS oxM 2) c
  | 10 => someF (hS oxM 3) c
  | 11 => someF (hS odM 0) c
  | 12 => someF (hS odM 1) c
  | 13 => someF (hS odM 2) c
  | 14 => someF (hS odM 3) c

/-- The shares the source of a transfer of a head is sent at: a half to one neighbour, a quarter to the other. -/
abbrev qX : PosShare TreeShare := fullShare.left
abbrev qY : PosShare TreeShare := fullShare.right.left
abbrev qK : PosShare TreeShare := fullShare.right.right

/-- What neighbour `yp c` (and, below, `xn c`) hands `c` at the barrier. -/
def barY (c : Dev nD) : sProp 𝕄 :=
  iprop(landing (yp c) 0 ∗ landing (yp c) 1 ∗ landing (yp c) 2 ∗ landing (yp c) 3 ∗ landing (yp c) 4 ∗ landing (yp c) 5 ∗ landing (yp c) 6
    ∗ landing (yp c) 11 ∗ landing (yp c) 12 ∗ landing (yp c) 13 ∗ landing (yp c) 14)
def barX (c : Dev nD) : sProp 𝕄 :=
  iprop(landing (xn c) 7 ∗ landing (xn c) 8 ∗ landing (xn c) 9 ∗ landing (xn c) 10)

section Pay
variable (m : (ℓ : Loc nD τ sig) → Buf (Elt F) ℓ) (c : Dev nD)

/-- What the landing of transfer `i` hands its receiver `c`. -/
def recvPay : Fin 15 → sProp 𝕄
  | 0 => pts ukrM c fullShare (ukr m c)
  | 1 => pts uvrM c fullShare (uvr m c)
  | 2 => pts crM c fullShare (cr m c)
  | 3 => pts (hS opM 0) c fullShare (om m (yp c))
  | 4 => pts (hS opM 1) c fullShare (om m (yp c))
  | 5 => pts (hS opM 2) c fullShare (om m (yp c))
  | 6 => pts (hS opM 3) c fullShare (om m (yp c))
  | 7 => pts (hS oxM 0) c fullShare (om m (xn c))
  | 8 => pts (hS oxM 1) c fullShare (om m (xn c))
  | 9 => pts (hS oxM 2) c fullShare (om m (xn c))
  | 10 => pts (hS oxM 3) c fullShare (om m (xn c))
  | 11 => pts (hS odM 0) c fullShare (om m (xn (yp c)))
  | 12 => pts (hS odM 1) c fullShare (om m (xn (yp c)))
  | 13 => pts (hS odM 2) c fullShare (om m (xn (yp c)))
  | 14 => pts (hS odM 3) c fullShare (om m (xn (yp c)))

/-- What the send cell of transfer `i` hands back to its sender `c`: the source, at the share it was sent at. -/
def sendPay : Fin 15 → sProp 𝕄
  | 0 => pts (ukS c) c fullShare (uk0 m c)
  | 1 => pts (uvS c) c fullShare (uv0 m c)
  | 2 => pts csM c fullShare (cs m c)
  | 3 => pts (hS omM 0) c qY (om m c)
  | 4 => pts (hS omM 1) c qY (om m c)
  | 5 => pts (hS omM 2) c qY (om m c)
  | 6 => pts (hS omM 3) c qY (om m c)
  | 7 => pts (hS omM 0) c qX (om m c)
  | 8 => pts (hS omM 1) c qX (om m c)
  | 9 => pts (hS omM 2) c qX (om m c)
  | 10 => pts (hS omM 3) c qX (om m c)
  | 11 => pts (hS oxM 0) c qX (om m (xn c))
  | 12 => pts (hS oxM 1) c qX (om m (xn c))
  | 13 => pts (hS oxM 2) c qX (om m (xn c))
  | 14 => pts (hS oxM 3) c qX (om m (xn c))

omit [FloatOps F] in
instance someF_storable {sp : Space} {s : Shape} {e : EltTy} (M : Memref sig .tc sp s e) (c : Dev nD) :
    BI.Storable (upEmb : UEmb _ 𝕄) (someF (F := F) M c) := by unfold someF; infer_instance
omit [FloatOps F] in
instance landing_storable (i : Fin 15) : BI.Storable (upEmb : UEmb _ 𝕄) (landing (F := F) c i) := by
  unfold landing; (repeat' split) <;> infer_instance
omit [FloatOps F] in
instance barY_storable : BI.Storable (upEmb : UEmb _ 𝕄) (barY (F := F) c) := by unfold barY; infer_instance
omit [FloatOps F] in
instance barX_storable : BI.Storable (upEmb : UEmb _ 𝕄) (barX (F := F) c) := by unfold barX; infer_instance
instance recvPay_storable (i : Fin 15) : BI.Storable (upEmb : UEmb _ 𝕄) (recvPay m c i) := by
  unfold recvPay; (repeat' split) <;> infer_instance
instance sendPay_storable (i : Fin 15) : BI.Storable (upEmb : UEmb _ 𝕄) (sendPay m c i) := by
  unfold sendPay; (repeat' split) <;> infer_instance

end Pay

/-! ## The schedule -/

def dutiesOf : Option CI → Finset Bool
  | none => ∅
  | some none => Finset.univ
  | some (some _) => {false}
def amountOf : Option CI → ℕ
  | some (some (_, i)) => nOf i
  | _ => 1
theorem amountOf_pos (k : Option CI) : 0 < amountOf k := by
  unfold amountOf; split; exacts [nOf_pos _, Nat.one_pos]

section Sched
variable (m : (ℓ : Loc nD τ sig) → Buf (Elt F) ℓ)

def payOf (c : Dev nD) (d : Bool) : Option CI → sProp 𝕄
  | none => iprop(emp)
  | some none => if d then barX c else barY c
  | some (some (false, i)) => sendPay m c i
  | some (some (true, i)) => recvPay m c i

instance payOf_storable (c : Dev nD) (d : Bool) (k : Option CI) : BI.Storable (upEmb : UEmb _ 𝕄) (payOf m c d k) := by
  unfold payOf; (repeat' split) <;> infer_instance

def rd : Rounds.Schedule (GSem nD τ sig) Bool 𝕄 where
  duties g r := if r = 0 ∧ g.1.2 = .tc then dutiesOf (decode g.2) else ∅
  unitless _ := False
  amount g _ _ := amountOf (decode g.2)
  payload g _ d := payOf m g.1.1 d (decode g.2)
  amount_pos g _ _ _ := amountOf_pos _

instance rd_payload_storable (g : GSem nD τ sig) (r : ℕ) (d : Bool) :
    BI.Storable (upEmb : UEmb _ 𝕄) ((rd (F := F) m).payload g r d) := payOf_storable m _ _ _

variable (c : Dev nD)

theorem duties_k (k : CI) : (rd (F := F) m).duties (kcell (c, k)) 0 = dutiesOf (some k) := by
  show (if (0 : ℕ) = 0 ∧ ((c : Thread nD τ)).2 = .tc then dutiesOf (decode (csem k)) else ∅) = _
  rw [if_pos ⟨rfl, rfl⟩, decode_csem]
theorem duties_later (g : GSem nD τ sig) : ∀ r, 1 ≤ r → (rd (F := F) m).duties g r = ∅ :=
  fun r hr => if_neg fun h => by omega
theorem amount_k (k : CI) (d : Bool) : (rd (F := F) m).amount (kcell (c, k)) 0 d = amountOf (some k) := by
  show amountOf (decode (csem k)) = _
  rw [decode_csem]
theorem payload_k (k : CI) (d : Bool) : (rd (F := F) m).payload (kcell (c, k)) 0 d = payOf m c d (some k) := by
  show payOf m c d (decode (csem k)) = _
  rw [decode_csem]

theorem expect_bar : (rd (F := F) m).expect (barCell c) 0 = 2 := by
  unfold Schedule.expect Schedule.amountOf
  rw [duties_k, Finset.sum_congr rfl fun d _ => amount_k m c none d]
  rfl
theorem expect_x (b : Bool) (i : Fin 15) : (rd (F := F) m).expect (kcell (c, some (b, i))) 0 = nOf i := by
  unfold Schedule.expect Schedule.amountOf
  rw [duties_k, Finset.sum_congr rfl fun d _ => amount_k m c (some (b, i)) d]
  exact Finset.sum_singleton _ _

theorem rest_bar : bigSep ((rd (F := F) m).duties (barCell c) 0 \ ∅) (fun d => (rd (F := F) m).payload (barCell c) 0 d) = iprop(barY c ∗ barX c) := by
  rw [Finset.sdiff_empty, duties_k, bigSep_congr fun d _ => payload_k m c none d]
  show bigSep (Finset.univ : Finset Bool) _ = _
  rw [bigSep_univ_eq_bigSepL [false, true] (by decide) (by decide), bigSepL_cons_cons, bigSepL_singleton]
  rfl
theorem rest_x (b : Bool) (i : Fin 15) : bigSep ((rd (F := F) m).duties (kcell (c, some (b, i))) 0 \ ∅) (fun d => (rd (F := F) m).payload (kcell (c, some (b, i))) 0 d)
    = payOf m c false (some (some (b, i))) := by
  rw [Finset.sdiff_empty, duties_k, bigSep_congr fun d _ => payload_k m c (some (b, i)) d]
  exact bigSep_singleton ..

end Sched

/-! ## What each device owes, and the levels -/

/-- The credits still owed for the transfers of a list, the first of the list peeled first. -/
def owe (c : Dev nD) : List (Fin 15) → CellTallies nD τ sig Unit
  | [] => 0
  | i :: is => owe c is + tallyAt (recvCell (peer i c) i) () (nOf i)

/-- The order the transfers are issued in. -/
abbrev order : List (Fin 15) := [0, 1, 2, 7, 3, 8, 4, 9, 5, 10, 6, 11, 12, 13, 14]

def O₁ (c : Dev nD) : CellTallies nD τ sig Unit := owe c order + tallyAt (barCell (xn c)) () 1
/-- At launch: every transfer's credit, and a unit to each neighbour's barrier. -/
def O₀ (c : Dev nD) : CellTallies nD τ sig Unit := O₁ c + tallyAt (barCell (yp c)) () 1

def L (g : GSem nD τ sig) : Finset Unit := if g.1.2 = .tc then {()} else ∅
/-- The level of a transfer's receive cell: the first three are waited for first, then those along the first axis. -/
def lvl (i : Fin 15) : ℕ := if i.val < 3 then 2 else if 7 ≤ i.val ∧ i.val ≤ 10 then 3 else 4
def lvOf : Option CI → ℕ
  | some none => 1
  | some (some (true, i)) => lvl i
  | _ => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CI) : lv (kcell (c, k)) () = lvOf (some k) := by
  show lvOf (decode (csem k)) = _
  rw [decode_csem]

theorem owe_pos {c : Dev nD} {g : GSem nD τ sig} {u : Unit} : ∀ {is : List (Fin 15)}, 0 < owe c is g u → ∃ i ∈ is, g = recvCell (peer i c) i := by
  intro is
  induction is with
  | nil => intro h; exact absurd h (Nat.lt_irrefl 0)
  | cons i is ih =>
    intro h
    unfold owe at h
    rw [Pi.add_apply, Finsupp.add_apply, tallyAt_apply] at h
    by_cases hg : g = recvCell (peer i c) i ∧ u = ()
    · exact ⟨i, List.mem_cons_self, hg.1⟩
    · rw [if_neg hg, Nat.add_zero] at h
      obtain ⟨j, hj, e⟩ := ih h
      exact ⟨j, List.mem_cons_of_mem _ hj, e⟩

theorem lvl_pos : ∀ i, 0 < lvl i := by decide

theorem O₀_pos {c : Dev nD} {g : GSem nD τ sig} {u : Unit} (h : 0 < O₀ c g u) : ∃ c' k, g = kcell (c', k) ∧ 0 < lvOf (some k) := by
  unfold O₀ O₁ at h
  rw [Pi.add_apply, Finsupp.add_apply, Pi.add_apply, Finsupp.add_apply, tallyAt_apply, tallyAt_apply] at h
  by_cases h1 : g = barCell (yp c) ∧ u = ()
  · exact ⟨_, _, h1.1, Nat.one_pos⟩
  by_cases h2 : g = barCell (xn c) ∧ u = ()
  · exact ⟨_, _, h2.1, Nat.one_pos⟩
  rw [if_neg h1, if_neg h2, Nat.add_zero] at h
  obtain ⟨i, -, e⟩ := owe_pos h
  exact ⟨_, _, e, lvl_pos i⟩

omit [FloatOps F] in
theorem mayWait_owe (c : Dev nD) (sm : SemLoc sig) (is : List (Fin 15)) (h : ∀ i ∈ is, lvOf (decode sm) < lvl i) :
    (levAts L lv : sProp 𝕄) ⊢ MayWait (c : Thread nD τ) sm () (owe c is) :=
  MayOwe.of_cut (L := L) (lev := lv) (lvOf (decode sm)) (fun p hp => by rw [Finset.mem_singleton.mp hp, L_tc]; exact Finset.mem_singleton_self _)
    (fun g u hg => by obtain ⟨i, hi, rfl⟩ := owe_pos hg; exact Finset.mem_singleton_self _)
    (fun p hp => by rw [Finset.mem_singleton.mp hp]; exact le_refl _)
    (fun g u hg => by obtain ⟨i, hi, rfl⟩ := owe_pos hg; rw [lv_k]; exact h i hi)

omit [FloatOps F] in
theorem mayWait_stage (c : Dev nD) (sm : SemLoc sig) (hs : lvOf (decode sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by obtain ⟨c', k, rfl, -⟩ := O₀_pos hg; exact Finset.mem_singleton_self _)
      (fun p hp => by rw [Finset.mem_singleton.mp hp]; exact le_of_eq hs)
      (fun g u hg => by obtain ⟨c', k, rfl, hk⟩ := O₀_pos hg; rw [lv_k]; exact hk)
  · rw [MayWait_zero]; iintro -; iempintro

end Cert.Mla

end
-- ==== Proof.Geometry.lean ====
/-
# Heads, slots and contents

A buffer of four heads is its four column blocks; a write that leaves on a memref's elements what a buffer `f` has
there leaves those elements as `f` has them; a part of a buffer is carved off and put back.
-/
module

public import proofs.«01_k».proof.Proof.Protocol

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents on the elements of a view -/

/-- A full write that makes a view read what it reads off `f` leaves `f` on the view's elements. -/
theorem write_eq_on {κ : Kind} {sp : Space} {s : Shape} {e : EltTy} (v : View sig κ sp s e) (f g : v.ty.Contents (Elt F)) (w : s.Idx → Elt F e)
    (h : v.read (Elt F) f = w) : ∀ i ∈ v.set, v.write (Elt F) g w Finset.univ i = f i := by
  intro i hi
  obtain ⟨x, -, rfl⟩ := Finset.mem_map.mp hi
  have h1 := congrFun ((View.read_write_univ (v := v) g w).trans h.symm) x
  rw [View.read_apply, View.read_apply] at h1
  exact cast_inj _ |>.mp h1

theorem pts_write {sp : Space} {s : Shape} {e : EltTy} (M : Memref sig .tc sp s e) (c : Dev nD) (q : PosShare TreeShare)
    (f g : Buf (Elt F) (M.view.loc (c : Thread nD τ))) (w : s.Idx → Elt F e) (h : M.view.read (Elt F) f = w) :
    (pts M c q (M.view.write (Elt F) g w Finset.univ) : sProp 𝕄) = pts M c q f :=
  pointsTo_congr (write_eq_on M.view f g w h)

/-! ## Parts of a buffer -/

omit [FloatOps F] in
theorem carve {ℓ : Loc nD τ sig} (I : Finset (Idx ℓ)) (q : PosShare TreeShare) (f : Buf (Elt F) ℓ) :
    (ℓ ↦{q} f : sProp 𝕄) ⊢ iprop((ℓ ↦[I]{q} f) ∗ (ℓ ↦[Finset.univ \ I]{q} f)) :=
  (pointsTo_split_subset (Finset.subset_univ I)).1
omit [FloatOps F] in
theorem uncarve {ℓ : Loc nD τ sig} (I : Finset (Idx ℓ)) (q : PosShare TreeShare) (f : Buf (Elt F) ℓ) :
    iprop((ℓ ↦[I]{q} f) ∗ (ℓ ↦[Finset.univ \ I]{q} f)) ⊢ (ℓ ↦{q} f : sProp 𝕄) :=
  (pointsTo_split_subset (Finset.subset_univ I)).2

omit [FloatOps F] in
theorem halves {ℓ : Loc nD τ sig} (I : Finset (Idx ℓ)) (q : PosShare TreeShare) (f : Buf (Elt F) ℓ) :
    (ℓ ↦[I]{q} f : sProp 𝕄) ⊣⊢ iprop((ℓ ↦[I]{q.left} f) ∗ (ℓ ↦[I]{q.right} f)) :=
  pointsTo_share q.mem_left_op_right

/-! ## The four heads -/

def headCols (h : Fin 4) : Finset S1024x512.Idx := Finset.univ.filter fun i => headOf i = h

theorem mem_cols {o : ℕ} {inb} {i : S1024x512.Idx} (hi : i ∈ (Rect.unit (s := S1024x512) ![0, o] S1024x128.size inb).set) :
    o ≤ (i 1).val ∧ (i 1).val < o + 128 := by
  have h := (LoadRect.mem_set _).mp hi 1
  obtain ⟨j, hj, e⟩ := h
  have hj' : j < 128 := hj
  have e' : (i 1).val = o + 1 * j := e
  omega
theorem cols_mem {o : ℕ} {inb} {i : S1024x512.Idx} (h1 : o ≤ (i 1).val) (h2 : (i 1).val < o + 128) :
    i ∈ (Rect.unit (s := S1024x512) ![0, o] S1024x128.size inb).set := by
  refine (LoadRect.mem_set _).mpr fun a => ?_
  match a with
  | ⟨0, _⟩ => exact ⟨(i 0).val, (i 0).isLt, by show (i 0).val = 0 + 1 * (i 0).val; omega⟩
  | ⟨1, _⟩ => exact ⟨(i 1).val - o, by show _ < 128; omega, by show (i 1).val = o + 1 * ((i 1).val - o); omega⟩

theorem set_cols (o : ℕ) (inb) (h : Fin 4) (ho : o = 128 * h.val) :
    (Rect.unit (s := S1024x512) ![0, o] S1024x128.size inb).set = headCols h := by
  ext i
  have hlt : (i 1).val < 512 := (i 1).isLt
  constructor
  · intro hi
    have := mem_cols hi
    refine Finset.mem_filter.mpr ⟨Finset.mem_univ _, Fin.ext ?_⟩
    show (i 1).val / 128 = h.val
    omega
  · intro hi
    have h2 : (i 1).val / 128 = h.val := congrArg Fin.val (Finset.mem_filter.mp hi).2
    exact cols_mem (by omega) (by omega)

theorem set_slice_cols (M : Memref sig .tc .vmem S1024x512 .bf16) (o : ℕ) (inb) (h : Fin 4) (ho : o = 128 * h.val) :
    (M.slice (Rect.unit (s := S1024x512) ![0, o] S1024x128.size inb) (fun _ => rfl)).view.set = (headCols h).map M.view.emb := by
  rw [← set_cols o inb h ho]; exact View.set_slice M.view _

theorem biUnion_cols (M : Memref sig .tc .vmem S1024x512 .bf16) :
    M.view.set = Finset.univ.biUnion fun h => (headCols h).map M.view.emb := by
  ext i
  constructor
  · intro hi
    obtain ⟨x, -, rfl⟩ := Finset.mem_map.mp hi
    exact Finset.mem_biUnion.mpr ⟨headOf x, Finset.mem_univ _, Finset.mem_map_of_mem _ (Finset.mem_filter.mpr ⟨Finset.mem_univ _, rfl⟩)⟩
  · intro hi
    obtain ⟨h, -, hm⟩ := Finset.mem_biUnion.mp hi
    obtain ⟨x, -, rfl⟩ := Finset.mem_map.mp hm
    exact View.emb_mem_set _ _

/-- A buffer of four heads, head by head. -/
theorem four (M : Memref sig .tc .vmem S1024x512 .bf16) (c : Dev nD) (q : PosShare TreeShare) (f : Buf (Elt F) (M.view.loc (c : Thread nD τ))) :
    (pts M c q f : sProp 𝕄)
      = iprop((M.view.loc (c : Thread nD τ) ↦[(hS M 0).view.set]{q} f) ∗ (M.view.loc (c : Thread nD τ) ↦[(hS M 1).view.set]{q} f)
        ∗ (M.view.loc (c : Thread nD τ) ↦[(hS M 2).view.set]{q} f) ∗ (M.view.loc (c : Thread nD τ) ↦[(hS M 3).view.set]{q} f)) := by
  have e0 : (hS M 0).view.set = (headCols 0).map M.view.emb := set_slice_cols M 0 _ 0 rfl
  have e1 : (hS M 1).view.set = (headCols 1).map M.view.emb := set_slice_cols M 128 _ 1 rfl
  have e2 : (hS M 2).view.set = (headCols 2).map M.view.emb := set_slice_cols M 256 _ 2 rfl
  have e3 : (hS M 3).view.set = (headCols 3).map M.view.emb := set_slice_cols M 384 _ 3 rfl
  rw [e0, e1, e2, e3]
  unfold pts
  rw [biUnion_cols M, pointsTo_biUnion, bigSep_univ_eq_bigSepL [0, 1, 2, 3] (by decide) (by decide)]
  · rfl
  · intro h _ h' _ hne
    refine Finset.disjoint_left.mpr fun i hi hi' => ?_
    obtain ⟨x, hx, rfl⟩ := Finset.mem_map.mp hi
    obtain ⟨y, hy, e⟩ := Finset.mem_map.mp hi'
    have : y = x := M.view.emb.injective e
    subst this
    exact hne ((Finset.mem_filter.mp hx).2.symm.trans (Finset.mem_filter.mp hy).2)

/-- What a device's four heads are at head `h`. -/
theorem om_read (m : (ℓ : Loc nD τ sig) → Buf (Elt F) ℓ) (c : Dev nD) (o : ℕ) (inb) (h : Fin 4) (ho : o = 128 * h.val) :
    ((omM).slice (Rect.unit (s := S1024x512) ![0, o] S1024x128.size inb) (fun _ => rfl)).view.read (Elt F) (om m c) = head m c h := by
  funext x
  rw [View.read_apply]
  have hx : (x 1).val < 128 := (x 1).isLt
  show head m c (headOf _) (inHead _) = head m c h x
  have e1 : headOf (((omM).slice (Rect.unit (s := S1024x512) ![0, o] S1024x128.size inb) (fun _ => rfl)).view.emb x) = h := by
    refine Fin.ext ?_
    show (o + 1 * (x 1).val) / 128 = h.val
    omega
  have e2 : inHead (((omM).slice (Rect.unit (s := S1024x512) ![0, o] S1024x128.size inb) (fun _ => rfl)).view.emb x) = x := by
    funext a
    match a with
    | ⟨0, _⟩ => exact Fin.ext (by show 0 + 1 * (x 0).val = (x 0).val; omega)
    | ⟨1, _⟩ => exact Fin.ext (by show (o + 1 * (x 1).val) % 128 = (x 1).val; omega)
  rw [e1, e2]

end Cert.Mla

end
-- ==== Proof.Steps.lean ====
/-
# The steps of the protocol

One lemma for a transfer to a neighbour, one for the wait on a send or receive cell, and those for a copy within the
device. Each is stated for every transfer `i` at once.
-/
module

public import proofs.«01_k».proof.Proof.Geometry

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- What a device still owes, whatever it has waited for. -/
def owesE (c : Dev nD) (O : CellTallies nD τ sig Unit) : sProp 𝕄 := iprop(∃ W, owes (c : Thread nD τ) O W)

variable (m : (ℓ : Loc nD τ sig) → Buf (Elt F) ℓ)

/-- The invariant of every cell, and that each has reached its only round. -/
def records (K : Dev nD × CI → ℕ) : sProp 𝕄 :=
  bigSep Finset.univ fun ck : Dev nD × CI => iprop(cellInv ER (rd m) (K ck) (kcell ck) ∗ reached ER (kcell ck) 0)

instance records_persistent (K : Dev nD × CI → ℕ) : BI.Persistent (records m K) := by unfold records; infer_instance

theorem inv_at (K : Dev nD × CI → ℕ) (ck : Dev nD × CI) : records m K ⊢ cellInv ER (rd m) (K ck) (kcell ck) := by
  refine (bigSep_elim (Finset.mem_univ ck)).trans ?_
  show iprop(cellInv ER (rd m) (K ck) (kcell ck) ∗ reached ER (kcell ck) 0) ⊢ _
  iintro ⟨H, -⟩
  iexact H
theorem reached_at (K : Dev nD × CI → ℕ) (ck : Dev nD × CI) : records m K ⊢ reached ER (kcell ck) 0 := by
  refine (bigSep_elim (Finset.mem_univ ck)).trans ?_
  show iprop(cellInv ER (rd m) (K ck) (kcell ck) ∗ reached ER (kcell ck) 0) ⊢ _
  iintro ⟨-, H⟩
  iexact H

/-- What device `c` issues transfer `i` with, what it holds until it waits for the send, and what it waits for the
    landing with. -/
def sTok (c : Dev nD) (i : Fin 15) : sProp 𝕄 :=
  iprop(dutyTok ER (sendCell c i) 0 false ∗ dutyTok ER (recvCell (peer i c) i) 0 false ∗ atPos ER (sendCell c i) 0 ∅ 0)
def wTok (c : Dev nD) (b : Bool) (i : Fin 15) : sProp 𝕄 :=
  iprop(atPos ER (kcell (c, some (b, i))) 0 ∅ 0 ∗ cred (tallyAt (kcell (c, some (b, i))) () (nOf i)))

section Steps

variable (K : Dev nD × CI → ℕ) (c : Dev nD)

/-- Transfer `i`. -/
theorem send_step {α : Type} {Q : α → sProp 𝕄} (i : Fin 15) (is : List (Fin 15)) (n : Dev nD) (hn : n = peer i c) {s : Shape} {e : EltTy}
    {src dst : Memref sig .tc .vmem s e} {sS sR : DmaSem sig} (hS : sS = sendS i) (hR : sR = recvS i)
    {hsc : (dst : Memref sig (Dev.tc n : Thread nD τ).2.kind .vmem s e).view.ref.isScScratch = false}
    {hsrc : src.view.WordExact} {hdst : (dst : Memref sig .tc .vmem s e).view.WordExact}
    {hsem : DmaTarget.Typed .vmem (.dma sR) (.remote (Dev.tc n : Thread nD τ) (dst : Memref sig .tc .vmem s e) (.dma sS) hsc)}
    {k : PUnit → Prog (TpuEff nD τ sig (Elt F) Λ₀ .tc) α}
    (hN : dst.view.dmaCredit = nOf i) {q : PosShare TreeShare} {fs : Buf (Elt F) (src.view.loc (c : Thread nD τ))}
    {g : Buf (Elt F) (dst.view.loc (peer i c : Thread nD τ))}
    (hs : sendPay m c i = pts src c q fs) (hl : landing (F := F) (peer i c) i = someF dst (peer i c))
    (hr : recvPay m (peer i c) i = pts dst (peer i c) fullShare g) (hg : dst.view.read (Elt F) g = src.view.read (Elt F) fs) :
    iprop(records m K ∗ sTok c i ∗ (pts src c q fs) ∗ landing (peer i c) i ∗ owesE c (owe c (i :: is)))
      ⊢ iprop(((wTok c false i ∗ owesE c (owe c is)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn; subst hS; subst hR
  rw [hl]
  unfold sTok owesE someF wTok
  iintro ⟨#HR, ⟨HtS, HtR, Hat⟩, Hsrc, ⟨%fd, Hdst⟩, ⟨%W, HO⟩⟩ Hk
  iapply (Rounds.wp_send_pointsTo 𝒱₀ ER (rd m) (c : Thread nD τ) none (κ₁ := K (c, some (false, i))) (κ₂ := K (peer i c, some (true, i)))
    (c' := (peer i c : Thread nD τ)) (src := src) (dst := dst) (sS := .dma (sendS i)) (sem := .dma (recvS i))
    (r₁ := 0) (r₂ := 0) (d₁ := false) (d₂ := false) (fd := fd) (fs := fs) (q := q)
    (by show _ ∈ (rd (F := F) m).duties (sendCell c i) 0; rw [duties_k]; exact Finset.mem_singleton_self _)
    (by show _ ∈ (rd (F := F) m).duties (recvCell (peer i c) i) 0; rw [duties_k]; exact Finset.mem_singleton_self _)
    () () (nOf i) hN (amount_k m c (some (false, i)) false) (amount_k m (peer i c) (some (true, i)) false)
    (owe c is) rfl (W := W)
    (Entails.of_eq (hs.symm.trans (payload_k m c (some (false, i)) false).symm))
    (Entails.of_eq ((pts_write dst (peer i c) fullShare g fd _ hg).trans (hr.symm.trans (payload_k m (peer i c) (some (true, i)) false).symm))))
    $$ [Hsrc Hdst HO HtS HtR]
  · isplitr; · iapply (inv_at m K (c, some (false, i))); iexact HR
    isplitr; · iapply (inv_at m K (peer i c, some (true, i))); iexact HR
    isplitl [Hsrc]; · iexact Hsrc
    isplitl [Hdst]; · iexact Hdst
    isplitl [HO]; · iexact HO
    isplitl [HtS]; · iexact HtS
    isplitr; · iapply (reached_at m K (c, some (false, i))); iexact HR
    isplitl [HtR]; · iexact HtR
    iapply (reached_at m K (peer i c, some (true, i))); iexact HR
  iintro ⟨Hc, HO⟩
  iapply Hk
  isplitl [Hat Hc]
  · isplitl [Hat]; · iexact Hat
    iexact Hc
  iexists W; iexact HO

/-- The wait on the send (`b` false) or receive cell of transfer `i`. -/
theorem wait_step {α : Type} {Q : α → sProp 𝕄} (b : Bool) (i : Fin 15) (is : List (Fin 15)) {s s' : Shape} {e e' : EltTy} {sp sp' : Space} {sm : DmaSem sig}
    (hsm : SemLoc.dma sm = csem (some (b, i)))
    {srcw : Memref sig .tc sp' s' e'} {dstw : Memref sig .tc sp s e} {hsrc : srcw.view.WordExact} {hdst : dstw.view.WordExact}
    {k : PUnit → Prog (TpuEff nD τ sig (Elt F) Λ₀ .tc) α} (hN : dstw.view.dmaCredit = nOf i)
    (hL : ∀ j ∈ is, lvOf (some (some (b, i))) < lvl j) :
    iprop(records m K ∗ levAts L lv ∗ wTok c b i ∗ owesE c (owe c is))
      ⊢ iprop(((payOf m c false (some (some (b, i))) ∗ semVal (kcell (c, some (b, i))) 0 ∗ owesE c (owe c is))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  unfold owesE wTok
  iintro ⟨#HR, #Hlev, ⟨Hat, Hc⟩, ⟨%W, HO⟩⟩ Hk
  ihave #HI := (inv_at m K (c, some (b, i))) $$ HR
  have hcell : ((c : Thread nD τ), SemLoc.dma sm) = kcell (c, some (b, i)) := by rw [hsm]
  iapply (Rounds.wp_wait_rest_token 𝒱₀ ER (rd m) (c : Thread nD τ) none (κ := K (c, some (b, i)))
      (wpE_waitDma2_eq 𝒱₀ (c : Thread nD τ) none Set.univ) (Set.mem_univ _) () (O := owe c is) (W := W) (R := 0) (m := 0) (T := ∅)
      (by rw [hcell, Nat.zero_add, expect_x]; exact hN)) $$ [Hc HO Hat]
  · rw [hcell, hN]
    isplitr; · iexact HI
    isplitl [Hc]; · iexact Hc
    isplitl [HO]; · iexact HO
    isplitr
    · iapply (mayWait_owe c (.dma sm) is (by rw [hsm, decode_csem]; exact hL)); iexact Hlev
    iexact Hat
  rw [hcell]
  iintro ⟨HO, Hat, -, Hpay⟩
  ihave Hp := (Entails.of_eq (rest_x m c b i)) $$ Hpay
  imod (Rounds.cell_close ER (rd m) (Set.mem_univ (K (c, some (b, i)))) (fun h => h) (R := 0 + 1) (duties_later m (kcell (c, some (b, i))))) $$ [Hat] with Hz
  · isplitr; · iexact HI
    iexact Hat
  iapply Hk
  isplitl [Hp]; · iexact Hp
  isplitl [Hz]; · iexact Hz
  iexists _; iexact HO

/-- A copy within the device: in flight on local semaphore `l` until waited for. -/
abbrev flight (l : Fin 4) {s : Shape} {e : EltTy} (dst : Memref sig .tc .vmem s e) (D : sProp 𝕄) : sProp 𝕄 :=
  Transfers.Flight (countersEmb (U := UU)) (c : Thread nD τ) (.dma (locS l)) () dst.view.dmaCredit D

theorem copy_step {α : Type} {Q : α → sProp 𝕄} (l : Fin 4) {s : Shape} {e : EltTy} {sm : DmaSem sig} (hsm : sm = locS l)
    {src : Memref sig .tc .hbm s e} {dst : Memref sig .tc .vmem s e} {hsrc : src.view.WordExact} {hdst : dst.view.WordExact}
    {hsem : DmaTarget.Typed (nD := nD) (τ := τ) (p := .tc) .hbm (.dma sm) (.here dst)}
    {k : PUnit → Prog (TpuEff nD τ sig (Elt F) Λ₀ .tc) α} (hpos : 0 < s.numel) {q : PosShare TreeShare}
    {fs : Buf (Elt F) (src.view.loc (c : Thread nD τ))} {fd : Buf (Elt F) (dst.view.loc (c : Thread nD τ))} :
    iprop(pts src c q fs ∗ pts dst c fullShare fd ∗ semVal ((c : Thread nD τ), .dma (locS l)) 0)
      ⊢ iprop((flight c l dst iprop(pts dst c fullShare (dst.view.write (Elt F) fd (src.view.read (Elt F) fs) Finset.univ) ∗ pts src c q fs)
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  subst hsm
  exact Transfers.wp_dmaLocal (countersEmb (U := UU)) 𝒱₀ (c : Thread nD τ) none (defs := defs₀ (F := F)) (src := src) (via := .same) (dst := dst)
    (sm := .dma (locS l)) (hsrc := hsrc) (hdst := hdst) (hsem := hsem) (k := k) (q := q) (fs := fs) (Sd := dst.view.set) (fd := fd) (Q := Q)
    () dst.view.dmaCredit rfl (View.dmaCredit_pos dst.view hpos) (Finset.Subset.refl _)

theorem copied_step {α : Type} {Q : α → sProp 𝕄} (l : Fin 4) (is : List (Fin 15)) (h : ∀ i ∈ is, 0 < lvl i) {s s' : Shape} {e e' : EltTy} {sp' : Space} {sm : DmaSem sig} (hsm : sm = locS l)
    {srcw : Memref sig .tc sp' s' e'} {dst : Memref sig .tc .vmem s e} {hsrc : srcw.view.WordExact} {hdst : dst.view.WordExact}
    {k : PUnit → Prog (TpuEff nD τ sig (Elt F) Λ₀ .tc) α} {D : sProp 𝕄} :
    iprop(levAts L lv ∗ flight c l dst D ∗ owesE c (owe c is))
      ⊢ iprop(((D ∗ semVal ((c : Thread nD τ), .dma (locS l)) 0 ∗ owesE c (owe c is))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dst hsrc hdst) k) Q) := by
  subst hsm
  unfold owesE
  iintro ⟨#Hlev, Hf, ⟨%W, HO⟩⟩ Hk
  iapply (Transfers.wp_waitLocalO (countersEmb (U := UU)) 𝒱₀ (c : Thread nD τ) none () (dstw := dst) rfl (O := owe c is) (W := W)) $$ [Hf HO]
  · isplitl [Hf]; · iexact Hf
    isplitl [HO]; · iexact HO
    have hd : lvOf (decode (.dma (locS l))) = 0 := by revert l; decide
    iapply (mayWait_owe c (.dma (locS l)) is (by rw [hd]; exact h)); iexact Hlev
  iintro ⟨HD, Hz, HO⟩
  iapply Hk
  isplitl [HD]; · iexact HD
  isplitl [Hz]; · iexact Hz
  iexists _; iexact HO

end Steps

end Cert.Mla

end
-- ==== Proof.Parts.lean ====
/-
# The parts of the body, and what they hold

The program's body is nineteen parts, run in turn; each is named here on the buffers the launch calls it with. Then what
the parts hold of the two slots of rows of `Wo` and of the copies in flight, and a load and a store of a memref held exactly.
-/
module

public import proofs.«01_k».proof.Proof.Steps
public import Idealize.ShloMosaic.Lib.Pipeline.Value

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev part1  : Prog (TpuEff nD τ sig (Elt F) Λ₀ .tc) (Σ' (d0 : Dev nD) (v2 : BitVec 32) (v5 : BitVec 32) (v6 : BitVec 32) (v7 : BitVec 32), BitVec 32) :=
  k0_part1 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13

abbrev part2 (d0 : Dev nD) (v2 : BitVec 32) (v5 : BitVec 32) (v6 : BitVec 32) (v7 : BitVec 32) : Prog (TpuEff nD τ sig (Elt F) Λ₀ .tc) (PUnit) :=
  k0_part2 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v5 v6 v7

abbrev part3 (d0 : Dev nD) (v2 : BitVec 32) (v6 : BitVec 32) : Prog (TpuEff nD τ sig (Elt F) Λ₀ .tc) (Σ' (v73 : FVec F S1024x2048 .bf16) (v78 : FVec F S1024x128 .bf16), Vec F S2048x512 .f32) :=
  k0_part3 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v6

abbrev part4 (d0 : Dev nD) (v2 : BitVec 32) (v6 : BitVec 32) (v73 : FVec F S1024x2048 .bf16) (v93 : Vec F S2048x512 .f32) : Prog (TpuEff nD τ sig (Elt F) Λ₀ .tc) (Σ' (v108 : FVec F S1024x32 .bf16) (v112 : FVec F S1024x512 .bf16), FVec F S1024x128 .bf16) :=
  k0_part4 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v6 v73 v93

abbrev part5 (d0 : Dev nD) (v2 : BitVec 32) (v6 : BitVec 32) (v10 : BitVec 32) (v78 : FVec F S1024x128 .bf16) : Prog (TpuEff nD τ sig (Elt F) Λ₀ .tc) (Σ' (v145 : Vec F S1024x128 .bf16) (v155 : FVec F S1024x512 .bf16), FVec F S128x512 .bf16) :=
  k0_part5 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v6 v10 v78

abbrev part6 (d0 : Dev nD) (v2 : BitVec 32) (v5 : BitVec 32) (v7 : BitVec 32) (v78 : FVec F S1024x128 .bf16) (v108 : FVec F S1024x32 .bf16) (v112 : FVec F S1024x512 .bf16) (v116 : FVec F S1024x128 .bf16) (v145 : Vec F S1024x128 .bf16) (v155 : FVec F S1024x512 .bf16) (v159 : FVec F S128x512 .bf16) : Prog (TpuEff nD τ sig (Elt F) Λ₀ .tc) (Σ' (v165 : FVec F S1024x512 .bf16), BitVec 32) :=
  k0_part6 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v5 v7 v78 v108 v112 v116 v145 v155 v159

abbrev part7 (d0 : Dev nD) (v5 : BitVec 32) (v6 : BitVec 32) (v7 : BitVec 32) (v108 : FVec F S1024x32 .bf16) (v112 : FVec F S1024x512 .bf16) (v116 : FVec F S1024x128 .bf16) (v155 : FVec F S1024x512 .bf16) (v165 : FVec F S1024x512 .bf16) (v195 : BitVec 32) : Prog (TpuEff nD τ sig (Elt F) Λ₀ .tc) (PUnit) :=
  k0_part7 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v5 v6 v7 v108 v112 v116 v155 v165 v195

abbrev part8 (d0 : Dev nD) (v2 : BitVec 32) (v5 : BitVec 32) (v6 : BitVec 32) (v7 : BitVec 32) (v108 : FVec F S1024x32 .bf16) (v112 : FVec F S1024x512 .bf16) (v116 : FVec F S1024x128 .bf16) (v155 : FVec F S1024x512 .bf16) (v165 : FVec F S1024x512 .bf16) : Prog (TpuEff nD τ sig (Elt F) Λ₀ .tc) (PUnit) :=
  k0_part8 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v5 v6 v7 v108 v112 v116 v155 v165

abbrev part9 (d0 : Dev nD) (v2 : BitVec 32) (v5 : BitVec 32) (v6 : BitVec 32) (v7 : BitVec 32) (v108 : FVec F S1024x32 .bf16) (v112 : FVec F S1024x512 .bf16) (v116 : FVec F S1024x128 .bf16) (v155 : FVec F S1024x512 .bf16) (v165 : FVec F S1024x512 .bf16) : Prog (TpuEff nD τ sig (Elt F) Λ₀ .tc) (PUnit) :=
  k0_part9 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v5 v6 v7 v108 v112 v116 v155 v165

abbrev part10 (d0 : Dev nD) (v2 : BitVec 32) (v6 : BitVec 32) : Prog (TpuEff nD τ sig (Elt F) Λ₀ .tc) (FVec F S1024x2048 .f32) :=
  k0_part10 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v6

abbrev part11 (d0 : Dev nD) (v2 : BitVec 32) (v5 : BitVec 32) (v6 : BitVec 32) (v7 : BitVec 32) : Prog (TpuEff nD τ sig (Elt F) Λ₀ .tc) (PUnit) :=
  k0_part11 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v5 v6 v7

abbrev part12 (d0 : Dev nD) (v2 : BitVec 32) (v5 : BitVec 32) (v6 : BitVec 32) (v7 : BitVec 32) : Prog (TpuEff nD τ sig (Elt F) Λ₀ .tc) (PUnit) :=
  k0_part12 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v5 v6 v7

abbrev part13 (d0 : Dev nD) (v2 : BitVec 32) (v5 : BitVec 32) (v6 : BitVec 32) (v7 : BitVec 32) : Prog (TpuEff nD τ sig (Elt F) Λ₀ .tc) (PUnit) :=
  k0_part13 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v5 v6 v7

abbrev part14 (d0 : Dev nD) (v2 : BitVec 32) (v6 : BitVec 32) (v327 : FVec F S1024x2048 .f32) : Prog (TpuEff nD τ sig (Elt F) Λ₀ .tc) (FVec F S1024x2048 .f32) :=
  k0_part14 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v6 v327

abbrev part15 (v2 : BitVec 32) (v6 : BitVec 32) : Prog (TpuEff nD τ sig (Elt F) Λ₀ .tc) (PUnit) :=
  k0_part15 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 v2 v6

abbrev part16 (v2 : BitVec 32) (v6 : BitVec 32) : Prog (TpuEff nD τ sig (Elt F) Λ₀ .tc) (PUnit) :=
  k0_part16 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 v2 v6

abbrev part17 (d0 : Dev nD) (v2 : BitVec 32) (v6 : BitVec 32) (v431 : FVec F S1024x2048 .f32) : Prog (TpuEff nD τ sig (Elt F) Λ₀ .tc) (FVec F S1024x2048 .f32) :=
  k0_part17 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 d0 v2 v6 v431

abbrev part18 (v2 : BitVec 32) (v6 : BitVec 32) : Prog (TpuEff nD τ sig (Elt F) Λ₀ .tc) (PUnit) :=
  k0_part18 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13 v2 v6

abbrev part19  : Prog (TpuEff nD τ sig (Elt F) Λ₀ .tc) (FVec F S1024x2048 .f32) :=
  k0_part19 xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13

/-- The whole body on those buffers. -/
abbrev body : Prog (TpuEff nD τ sig (Elt F) Λ₀ .tc) PUnit :=
  cc0_body xM (Memref.isWhole_whole _) dkvM (Memref.isWhole_whole _) ukM (Memref.isWhole_whole _) uvM (Memref.isWhole_whole _) qH (Memref.isWhole_whole _) qrH (Memref.isWhole_whole _) krM (Memref.isWhole_whole _) oH (Memref.isWhole_whole _) outM (Memref.isWhole_whole _) csM (Memref.isWhole_whole _) crM (Memref.isWhole_whole _) ukrM (Memref.isWhole_whole _) uvrM (Memref.isWhole_whole _) omM (Memref.isWhole_whole _) oxM (Memref.isWhole_whole _) opM (Memref.isWhole_whole _) odM (Memref.isWhole_whole _) wqM (Memref.isWhole_whole _) wqrM (Memref.isWhole_whole _) woM (Memref.isWhole_whole _) cc0_scratch11 cc0_scratch12 cc0_scratch13

/-- A device's program at `defs₀`, nothing bound. -/
abbrev wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem hz2 : (![0, 0] : Fin 2 → Nat) = fun _ => 0 := funext fun a => by fin_cases a <;> rfl

omit [FloatOps F] in
theorem pts_whole (b : Ref sig .tc) (c : Dev nD) (q : PosShare TreeShare) (f : Buf (Elt F) ((c : Thread nD τ).loc b)) :
    ((View.whole b).loc (c : Thread nD τ) ↦[(View.whole b).set]{q} f : sProp 𝕄) = (((c : Thread nD τ).loc b) ↦{q} f) := by
  rw [View.set_whole]

omit [FloatOps F] in
/-- A part of a whole buffer and the rest of it. -/
theorem carve_whole (c : Dev nD) {b : Ref sig .tc} (I : Finset (Idx ((c : Thread nD τ).loc b))) (q : PosShare TreeShare) (f : Buf (Elt F) ((c : Thread nD τ).loc b)) :
    ((View.whole b).loc (c : Thread nD τ) ↦[(View.whole b).set]{q} f : sProp 𝕄)
      ⊢ iprop((((c : Thread nD τ).loc b) ↦[I]{q} f) ∗ (((c : Thread nD τ).loc b) ↦[Finset.univ \ I]{q} f)) :=
  (Entails.of_eq (pts_whole b c q f)).trans (carve I q f)
omit [FloatOps F] in
theorem uncarve_whole (c : Dev nD) {b : Ref sig .tc} (I : Finset (Idx ((c : Thread nD τ).loc b))) (q : PosShare TreeShare) (f : Buf (Elt F) ((c : Thread nD τ).loc b)) :
    iprop((((c : Thread nD τ).loc b) ↦[I]{q} f) ∗ (((c : Thread nD τ).loc b) ↦[Finset.univ \ I]{q} f))
      ⊢ ((View.whole b).loc (c : Thread nD τ) ↦[(View.whole b).set]{q} f : sProp 𝕄) :=
  (uncarve I q f).trans (Entails.of_eq (pts_whole b c q f).symm)

/-! ## A load and a store -/

/-- A load of what is held, at any share, of the value `w` there. -/
theorem load_step (c : Dev nD) {α : Type} {Q : α → sProp 𝕄} {sp : CoreSpace} {s : Shape} {e : EltTy} {M : Memref sig .tc sp s e} {r : LoadRect s}
    {hl : M.view.LoadsAt r} {k : (r.shape.Idx → Elt F e) → Prog (TpuEff nD τ sig (Elt F) Λ₀ .tc) α} {q : PosShare TreeShare}
    {S : Finset (Idx (M.view.loc (c : Thread nD τ)))}
    {f : Buf (Elt F) (M.view.loc (c : Thread nD τ))} (w : r.shape.Idx → Elt F e) (hS : M.view.setOn r.set ⊆ S)
    (hw : M.view.readAt (Elt F) r f = w) :
    (M.view.loc (c : Thread nD τ) ↦[S]{q} f : sProp 𝕄)
      ⊢ iprop(((M.view.loc (c : Thread nD τ) ↦[S]{q} f) -∗ wpD c (k w) Q) -∗ wpD c (.op (.load M r hl) k) Q) := by
  subst hw
  exact wp_load 𝒱₀ (c : Thread nD τ) none Set.univ (m := M) (r := r) (S := S) hS

/-- A load of a whole memref. -/
theorem load_all (c : Dev nD) {α : Type} {Q : α → sProp 𝕄} {sp : CoreSpace} {s : Shape} {e : EltTy} {M : Memref sig .tc sp s e} {r : LoadRect s}
    {hl : M.view.LoadsAt r} {k : (r.shape.Idx → Elt F e) → Prog (TpuEff nD τ sig (Elt F) Λ₀ .tc) α} {q : PosShare TreeShare}
    {f : Buf (Elt F) (M.view.loc (c : Thread nD τ))} (w : r.shape.Idx → Elt F e) (hw : M.view.readAt (Elt F) r f = w) :
    (pts M c q f : sProp 𝕄) ⊢ iprop((pts M c q f -∗ wpD c (k w) Q) -∗ wpD c (.op (.load M r hl) k) Q) :=
  load_step c w (View.setOn_subset_set _ _) hw

/-- A store that covers what is held, of what `f` has there. -/
theorem store_step (c : Dev nD) {α : Type} {Q : α → sProp 𝕄} {sp : CoreSpace} {s : Shape} {e : EltTy} {M : Memref sig .tc sp s e} {r : Rect s}
    {w : r.shape.Idx → Elt F e} {hst : (M.access r).Stores Finset.univ} {h32 : _}
    {k : PUnit → Prog (TpuEff nD τ sig (Elt F) Λ₀ .tc) α} {f₀ : Buf (Elt F) (M.view.loc (c : Thread nD τ))}
    (f : Buf (Elt F) (M.view.loc (c : Thread nD τ))) (hf : (M.access r).read (Elt F) f = w) :
    (M.view.loc (c : Thread nD τ) ↦[(M.access r).set]{fullShare} f₀ : sProp 𝕄)
      ⊢ iprop(((M.view.loc (c : Thread nD τ) ↦[(M.access r).set]{fullShare} f) -∗ wpD c (k ⟨⟩) Q) -∗ wpD c (.op (.store M r w Finset.univ hst h32) k) Q) := by
  have e : (M.view.loc (c : Thread nD τ) ↦[(M.access r).set]{fullShare} (M.access r).write (Elt F) f₀ w Finset.univ : sProp 𝕄)
      = (M.view.loc (c : Thread nD τ) ↦[(M.access r).set]{fullShare} f) := pointsTo_congr (write_eq_on (M.access r) f f₀ w hf)
  rw [← e]
  exact wp_store 𝒱₀ (c : Thread nD τ) none Set.univ (m := M) (r := r) (Mk := Finset.univ) (S := (M.access r).set) (View.setOn_subset_set _ _)

theorem access_subset {sp : Space} {s : Shape} {e : EltTy} (M : Memref sig .tc sp s e) (r : Rect s) (Mk) : (M.access r).setOn Mk ⊆ M.view.set := by
  refine (View.setOn_subset_set _ _).trans ?_
  intro i hi
  rw [show (M.access r).set = r.set.map M.view.emb from View.set_slice M.view r] at hi
  obtain ⟨x, -, rfl⟩ := Finset.mem_map.mp hi
  exact View.emb_mem_set _ _

/-- A store into a whole memref, that leaves `f` there. -/
theorem store_all (c : Dev nD) {α : Type} {Q : α → sProp 𝕄} {sp : CoreSpace} {s : Shape} {e : EltTy} {M : Memref sig .tc sp s e} {r : Rect s}
    {w : r.shape.Idx → Elt F e} {hst : (M.access r).Stores Finset.univ} {h32 : _}
    {k : PUnit → Prog (TpuEff nD τ sig (Elt F) Λ₀ .tc) α} {f₀ : Buf (Elt F) (M.view.loc (c : Thread nD τ))}
    (f : Buf (Elt F) (M.view.loc (c : Thread nD τ))) (hf : (M.access r).write (Elt F) f₀ w Finset.univ = f) :
    (pts M c fullShare f₀ : sProp 𝕄)
      ⊢ iprop((pts M c fullShare f -∗ wpD c (k ⟨⟩) Q) -∗ wpD c (.op (.store M r w Finset.univ hst h32) k) Q) := by
  subst hf
  exact wp_store 𝒱₀ (c : Thread nD τ) none Set.univ (m := M) (r := r) (Mk := Finset.univ) (S := M.view.set) (access_subset M r _)

/-! ## The two slots of rows of `Wo` -/

/-- Slot `j` of the buffer of two. -/
abbrev wS : Fin 2 → Memref sig .tc .vmem S512x2048 .f32
  | 0 => (woM.slice (Rect.unit (s := S2x512x2048) ![0, 0, 0] S1x512x2048.size inb_S2x512x2048_S1x512x2048_0_0_0) (fun _ => rfl)).squeeze S512x2048 squeezes_S1x512x2048_S512x2048
  | 1 => (woM.slice (Rect.unit (s := S2x512x2048) ![1, 0, 0] S1x512x2048.size inb_S2x512x2048_S1x512x2048_1_0_0) (fun _ => rfl)).squeeze S512x2048 squeezes_S1x512x2048_S512x2048

theorem set_wS0 : (wS 0).view.set = (wRect 0).set.map woM.view.emb :=
  (View.set_reshape _ _).trans (View.set_slice woM.view _)
theorem set_wS1 : (wS 1).view.set = (wRect 1).set.map woM.view.emb :=
  (View.set_reshape _ _).trans (View.set_slice woM.view _)

theorem slot_of {v : Vec F S1x512x2048 .f32} {w : Vec F S512x2048 .f32} {hc} (h : shapeCast S512x2048 v hc = w) : v = slot w := by
  subst h; exact (shapeCast_shapeCast v _ _).symm

/-- Slot `j` holding `w`. -/
def slotP (c : Dev nD) (j : Fin 2) (w : Vec F S1x512x2048 .f32) : sProp 𝕄 :=
  match j with
  | 0 => iprop(∃ f : Buf (Elt F) (woM.view.loc (c : Thread nD τ)), ⌜woM.view.readAt (Elt F) (wRect 0).toLoadRect f = w⌝ ∗ pts (wS 0) c fullShare f)
  | 1 => iprop(∃ f : Buf (Elt F) (woM.view.loc (c : Thread nD τ)), ⌜woM.view.readAt (Elt F) (wRect 1).toLoadRect f = w⌝ ∗ pts (wS 1) c fullShare f)

/-- Slot `j` being filled with `w`, and `R` lent for it. -/
def slotFl (c : Dev nD) (j : Fin 2) (w : Vec F S1x512x2048 .f32) (R : sProp 𝕄) : sProp 𝕄 :=
  match j with
  | 0 => flight c 1 (wS 0) iprop(slotP c 0 w ∗ R)
  | 1 => flight c 2 (wS 1) iprop(slotP c 1 w ∗ R)

theorem slotFl_intro0 (c : Dev nD) (f : Buf (Elt F) (woM.view.loc (c : Thread nD τ))) (w : Vec F S512x2048 .f32) (R : sProp 𝕄)
    (h : (wS 0).view.read (Elt F) f = w) : flight c 1 (wS 0) iprop(pts (wS 0) c fullShare f ∗ R) ⊢ slotFl c 0 (slot w) R := by
  refine Transfers.Flight_mono _ _ ?_
  iintro ⟨H, HR⟩
  isplitl [H]
  · unfold slotP
    iexists f
    isplitr; · ipureintro; exact slot_of h
    iexact H
  iexact HR
theorem slotFl_intro1 (c : Dev nD) (f : Buf (Elt F) (woM.view.loc (c : Thread nD τ))) (w : Vec F S512x2048 .f32) (R : sProp 𝕄)
    (h : (wS 1).view.read (Elt F) f = w) : flight c 2 (wS 1) iprop(pts (wS 1) c fullShare f ∗ R) ⊢ slotFl c 1 (slot w) R := by
  refine Transfers.Flight_mono _ _ ?_
  iintro ⟨H, HR⟩
  isplitl [H]
  · unfold slotP
    iexists f
    isplitr; · ipureintro; exact slot_of h
    iexact H
  iexact HR

theorem slotFl_out0 (c : Dev nD) (w : Vec F S1x512x2048 .f32) (R : sProp 𝕄) :
    slotFl c 0 w R ⊢ flight c 1 (wS 0) iprop(slotP c 0 w ∗ R) := Entails.rfl
theorem slotFl_out1 (c : Dev nD) (w : Vec F S1x512x2048 .f32) (R : sProp 𝕄) :
    slotFl c 1 w R ⊢ flight c 2 (wS 1) iprop(slotP c 1 w ∗ R) := Entails.rfl

/-- A load of slot 0, and of slot 1. -/
theorem load_slot0 (c : Dev nD) {α : Type} {Q : α → sProp 𝕄} {w : Vec F S1x512x2048 .f32} {hl : woM.view.LoadsAt (wRect 0).toLoadRect}
    {k : Vec F S1x512x2048 .f32 → Prog (TpuEff nD τ sig (Elt F) Λ₀ .tc) α} :
    (slotP c 0 w : sProp 𝕄) ⊢ iprop((slotP c 0 w -∗ wpD c (k w) Q) -∗ wpD c (.op (.load woM (wRect 0).toLoadRect hl) k) Q) := by
  unfold slotP
  iintro ⟨%f, %h, H⟩ Hk
  iapply (load_step c w (f := f) (S := (wS 0).view.set) (by rw [set_wS0]; exact Finset.Subset.refl _) h) $$ [H]
  · iexact H
  iintro H
  iapply Hk
  iexists f
  isplitr; · ipureintro; exact h
  iexact H
theorem load_slot1 (c : Dev nD) {α : Type} {Q : α → sProp 𝕄} {w : Vec F S1x512x2048 .f32} {hl : woM.view.LoadsAt (wRect 1).toLoadRect}
    {k : Vec F S1x512x2048 .f32 → Prog (TpuEff nD τ sig (Elt F) Λ₀ .tc) α} :
    (slotP c 1 w : sProp 𝕄) ⊢ iprop((slotP c 1 w -∗ wpD c (k w) Q) -∗ wpD c (.op (.load woM (wRect 1).toLoadRect hl) k) Q) := by
  unfold slotP
  iintro ⟨%f, %h, H⟩ Hk
  iapply (load_step c w (f := f) (S := (wS 1).view.set) (by rw [set_wS1]; exact Finset.Subset.refl _) h) $$ [H]
  · iexact H
  iintro H
  iapply Hk
  iexists f
  isplitr; · ipureintro; exact h
  iexact H

theorem slotP_some0 (c : Dev nD) (w : Vec F S1x512x2048 .f32) : (slotP c 0 w : sProp 𝕄) ⊢ someF (wS 0) c := by
  unfold slotP someF
  iintro ⟨%f, -, H⟩
  iexists f
  iexact H
theorem slotP_some1 (c : Dev nD) (w : Vec F S1x512x2048 .f32) : (slotP c 1 w : sProp 𝕄) ⊢ someF (wS 1) c := by
  unfold slotP someF
  iintro ⟨%f, -, H⟩
  iexists f
  iexact H

/-- A copy of rows of `Wo` into slot 0, and into slot 1. -/
theorem copy_slot0 (c : Dev nD) {α : Type} {Q : α → sProp 𝕄} {sm : DmaSem sig} (hsm : sm = locS 1) {src : Memref sig .tc .hbm S512x2048 .f32}
    {hsrc : src.view.WordExact} {hdst : (wS 0).view.WordExact} {hsem : DmaTarget.Typed (nD := nD) (τ := τ) (p := .tc) .hbm (.dma sm) (.here (wS 0))}
    {k : PUnit → Prog (TpuEff nD τ sig (Elt F) Λ₀ .tc) α} {q : PosShare TreeShare} {fs : Buf (Elt F) (src.view.loc (c : Thread nD τ))} :
    iprop(pts src c q fs ∗ someF (wS 0) c ∗ semVal ((c : Thread nD τ), .dma (locS 1)) 0)
      ⊢ iprop((slotFl c 0 (slot (src.view.read (Elt F) fs)) (pts src c q fs) -∗ wpD c (k ⟨⟩) Q)
          -∗ wpD c (.op (.enqueueDma src (.here (wS 0)) (.dma sm) hsrc hdst hsem) k) Q) := by
  unfold someF
  iintro ⟨Hs, ⟨%f, Hd⟩, Hz⟩ Hk
  iapply (copy_step c 1 hsm (src := src) (dst := wS 0) (by decide)) $$ [Hs Hd Hz]
  · isplitl [Hs]; · iexact Hs
    isplitl [Hd]; · iexact Hd
    iexact Hz
  iintro Hf
  iapply Hk
  iapply (slotFl_intro0 c _ _ _ (View.read_write_univ _ _)); iexact Hf
theorem copy_slot1 (c : Dev nD) {α : Type} {Q : α → sProp 𝕄} {sm : DmaSem sig} (hsm : sm = locS 2) {src : Memref sig .tc .hbm S512x2048 .f32}
    {hsrc : src.view.WordExact} {hdst : (wS 1).view.WordExact} {hsem : DmaTarget.Typed (nD := nD) (τ := τ) (p := .tc) .hbm (.dma sm) (.here (wS 1))}
    {k : PUnit → Prog (TpuEff nD τ sig (Elt F) Λ₀ .tc) α} {q : PosShare TreeShare} {fs : Buf (Elt F) (src.view.loc (c : Thread nD τ))} :
    iprop(pts src c q fs ∗ someF (wS 1) c ∗ semVal ((c : Thread nD τ), .dma (locS 2)) 0)
      ⊢ iprop((slotFl c 1 (slot (src.view.read (Elt F) fs)) (pts src c q fs) -∗ wpD c (k ⟨⟩) Q)
          -∗ wpD c (.op (.enqueueDma src (.here (wS 1)) (.dma sm) hsrc hdst hsem) k) Q) := by
  unfold someF
  iintro ⟨Hs, ⟨%f, Hd⟩, Hz⟩ Hk
  iapply (copy_step c 2 hsm (src := src) (dst := wS 1) (by decide)) $$ [Hs Hd Hz]
  · isplitl [Hs]; · iexact Hs
    isplitl [Hd]; · iexact Hd
    iexact Hz
  iintro Hf
  iapply Hk
  iapply (slotFl_intro1 c _ _ _ (View.read_write_univ _ _)); iexact Hf

/-! ## Heads -/

/-- A load of one head's columns, whose value is not used. -/
theorem load_head (c : Dev nD) {α : Type} {Q : α → sProp 𝕄} {M : Memref sig .tc .vmem S1024x512 .bf16} (o : ℕ) {inb}
    {hl : M.view.LoadsAt (Rect.unit (s := S1024x512) ![0, o] S1024x128.size inb).toLoadRect}
    {p : Prog (TpuEff nD τ sig (Elt F) Λ₀ .tc) α} {q : PosShare TreeShare} {f : Buf (Elt F) (M.view.loc (c : Thread nD τ))} :
    (pts (M.slice (Rect.unit (s := S1024x512) ![0, o] S1024x128.size inb) (fun _ => rfl)) c q f : sProp 𝕄)
      ⊢ iprop((pts (M.slice (Rect.unit (s := S1024x512) ![0, o] S1024x128.size inb) (fun _ => rfl)) c q f -∗ wpD c p Q)
        -∗ wpD c (.op (.load M (Rect.unit (s := S1024x512) ![0, o] S1024x128.size inb).toLoadRect hl) fun _ => p) Q) :=
  load_step c (M := M) (r := (Rect.unit (s := S1024x512) ![0, o] S1024x128.size inb).toLoadRect)
    (S := (M.slice (Rect.unit (s := S1024x512) ![0, o] S1024x128.size inb) (fun _ => rfl)).view.set) (hl := hl) (k := fun _ => p) (q := q) (f := f) (Q := Q) _
    (Finset.subset_of_eq (View.set_slice M.view (Rect.unit (s := S1024x512) ![0, o] S1024x128.size inb)).symm) rfl

/-- The store of head `h`. -/
theorem store_head (m : (ℓ : Loc nD τ sig) → Buf (Elt F) ℓ) (c : Dev nD) {α : Type} {Q : α → sProp 𝕄} (o : ℕ) {inb} (h : Fin 4) (ho : o = 128 * h.val)
    {w : Vec F S1024x128 .bf16} (hw : head m c h = w)
    {hst : (omM.access (Rect.unit (s := S1024x512) ![0, o] S1024x128.size inb)).Stores Finset.univ} {h32 : _}
    {k : PUnit → Prog (TpuEff nD τ sig (Elt F) Λ₀ .tc) α} {f₀ : Buf (Elt F) (omM.view.loc (c : Thread nD τ))} :
    (pts (omM.slice (Rect.unit (s := S1024x512) ![0, o] S1024x128.size inb) (fun _ => rfl)) c fullShare f₀ : sProp 𝕄)
      ⊢ iprop((pts (omM.slice (Rect.unit (s := S1024x512) ![0, o] S1024x128.size inb) (fun _ => rfl)) c fullShare (om m c) -∗ wpD c (k ⟨⟩) Q)
        -∗ wpD c (.op (.store omM (Rect.unit (s := S1024x512) ![0, o] S1024x128.size inb) w Finset.univ hst h32) k) Q) :=
  store_step c (M := omM) (r := Rect.unit (s := S1024x512) ![0, o] S1024x128.size inb) (om m c) ((om_read m c o inb h ho).trans hw)

omit [FloatOps F] in
/-- A head, at the three shares it is held at. -/
theorem thirds {ℓ : Loc nD τ sig} (I : Finset (Idx ℓ)) (f : Buf (Elt F) ℓ) :
    (ℓ ↦[I]{fullShare} f : sProp 𝕄) ⊢ iprop((ℓ ↦[I]{qX} f) ∗ (ℓ ↦[I]{qY} f) ∗ (ℓ ↦[I]{qK} f)) :=
  (halves I fullShare f).1.trans (sep_mono Entails.rfl (halves I fullShare.right f).1)
omit [FloatOps F] in
theorem thirds_join {ℓ : Loc nD τ sig} (I : Finset (Idx ℓ)) (f : Buf (Elt F) ℓ) :
    iprop((ℓ ↦[I]{qX} f) ∗ (ℓ ↦[I]{qY} f) ∗ (ℓ ↦[I]{qK} f)) ⊢ (ℓ ↦[I]{fullShare} f : sProp 𝕄) :=
  (sep_mono Entails.rfl (halves I fullShare.right f).2).trans (halves I fullShare f).2

/-! ## Credits -/

theorem creditA (v : View sig .tc .vmem S128x512 .f32) (i : Fin 15) (h : i.val < 2) : v.dmaCredit = nOf i :=
  (show v.dmaCredit = nA from rfl).trans (if_pos h).symm
theorem creditB (v : View sig .tc .vmem S1024x128 .bf16) (i : Fin 15) (h : ¬ i.val < 2) : v.dmaCredit = nOf i :=
  (show v.dmaCredit = nB from rfl).trans (if_neg h).symm

/-! ## A wait, with what it yields spelled out -/

theorem wait_to (m : (ℓ : Loc nD τ sig) → Buf (Elt F) ℓ) (K : Dev nD × CI → ℕ) (c : Dev nD)
    {α : Type} {Q : α → sProp 𝕄} (b : Bool) (i : Fin 15) (is : List (Fin 15)) (P : sProp 𝕄) (hP : payOf m c false (some (some (b, i))) = P)
    {s s' : Shape} {e e' : EltTy} {sp sp' : Space} {sm : DmaSem sig} (hsm : SemLoc.dma sm = csem (some (b, i)))
    {srcw : Memref sig .tc sp' s' e'} {dstw : Memref sig .tc sp s e} {hsrc : srcw.view.WordExact} {hdst : dstw.view.WordExact}
    {k : PUnit → Prog (TpuEff nD τ sig (Elt F) Λ₀ .tc) α} (hN : dstw.view.dmaCredit = nOf i)
    (hL : ∀ j ∈ is, lvOf (some (some (b, i))) < lvl j) :
    iprop(records m K ∗ levAts L lv ∗ wTok c b i ∗ owesE c (owe c is))
      ⊢ iprop(((P ∗ semVal (kcell (c, some (b, i))) 0 ∗ owesE c (owe c is)) -∗ wpD c (k ⟨⟩) Q)
          -∗ wpD c (.op (.waitDma2 sm srcw dstw hsrc hdst) k) Q) := by
  subst hP
  exact wait_step m K c b i is hsm hN hL

end Cert.Mla

end
-- ==== Proof.Held.lean ====
/-
# What a device holds at launch, and at the end
-/
module

public import proofs.«01_k».proof.Proof.Parts

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- What the barrier is gone through with, apart from what is handed over at it. -/
def barIn : sProp 𝕄 :=
  iprop(cred (tallyAt (barCell c) () 2) ∗ atPos ER (barCell c) 0 ∅ 0 ∗ dutyTok ER (barCell (yp c)) 0 false ∗ dutyTok ER (barCell (xn c)) 0 true
    ∗ owesE c (O₀ c))

/-- What the transfers are issued and waited for with, device by device. -/
def toksIn : sProp 𝕄 :=
  iprop(sTok c 0
    ∗ sTok c 1
    ∗ sTok c 2
    ∗ sTok c 3
    ∗ sTok c 4
    ∗ sTok c 5
    ∗ sTok c 6
    ∗ sTok c 7
    ∗ sTok c 8
    ∗ sTok c 9
    ∗ sTok c 10
    ∗ sTok c 11
    ∗ sTok c 12
    ∗ sTok c 13
    ∗ sTok c 14
    ∗ wTok c true 0
    ∗ wTok c true 1
    ∗ wTok c true 2
    ∗ wTok c true 3
    ∗ wTok c true 4
    ∗ wTok c true 5
    ∗ wTok c true 6
    ∗ wTok c true 7
    ∗ wTok c true 8
    ∗ wTok c true 9
    ∗ wTok c true 10
    ∗ wTok c true 11
    ∗ wTok c true 12
    ∗ wTok c true 13
    ∗ wTok c true 14)

/-- The four local semaphores at zero. -/
def locZ : sProp 𝕄 :=
  iprop(semVal ((c : Thread nD τ), .dma (locS 0)) 0
    ∗ semVal ((c : Thread nD τ), .dma (locS 1)) 0
    ∗ semVal ((c : Thread nD τ), .dma (locS 2)) 0
    ∗ semVal ((c : Thread nD τ), .dma (locS 3)) 0)

/-- The staged arguments. -/
def staged : sProp 𝕄 :=
  iprop(pts xM c fullShare (x0 m c)
    ∗ pts dkvM c fullShare (dkv0 m c)
    ∗ pts ukM c fullShare (uk0 m c)
    ∗ pts uvM c fullShare (uv0 m c)
    ∗ pts krM c fullShare (kr0 m c))

/-- The weights left in HBM. -/
def args : sProp 𝕄 :=
  iprop(pts qH c fullShare (m ((c : Thread nD τ).loc main_arg4))
    ∗ pts qrH c fullShare (m ((c : Thread nD τ).loc main_arg5))
    ∗ pts oH c fullShare (m ((c : Thread nD τ).loc main_arg7)))

/-- The scratch buffers, with any contents. -/
def scratch : sProp 𝕄 :=
  iprop(someF csM c
    ∗ someF crM c
    ∗ someF ukrM c
    ∗ someF uvrM c
    ∗ someF omM c
    ∗ someF oxM c
    ∗ someF opM c
    ∗ someF odM c
    ∗ someF wqM c
    ∗ someF wqrM c
    ∗ someF woM c)

/-- The semaphores of the transfers, at zero. -/
def xferZ : sProp 𝕄 :=
  iprop(semVal (kcell (c, some (false, 0))) 0
    ∗ semVal (kcell (c, some (false, 1))) 0
    ∗ semVal (kcell (c, some (false, 2))) 0
    ∗ semVal (kcell (c, some (false, 3))) 0
    ∗ semVal (kcell (c, some (false, 4))) 0
    ∗ semVal (kcell (c, some (false, 5))) 0
    ∗ semVal (kcell (c, some (false, 6))) 0
    ∗ semVal (kcell (c, some (false, 7))) 0
    ∗ semVal (kcell (c, some (false, 8))) 0
    ∗ semVal (kcell (c, some (false, 9))) 0
    ∗ semVal (kcell (c, some (false, 10))) 0
    ∗ semVal (kcell (c, some (false, 11))) 0
    ∗ semVal (kcell (c, some (false, 12))) 0
    ∗ semVal (kcell (c, some (false, 13))) 0
    ∗ semVal (kcell (c, some (false, 14))) 0
    ∗ semVal (kcell (c, some (true, 0))) 0
    ∗ semVal (kcell (c, some (true, 1))) 0
    ∗ semVal (kcell (c, some (true, 2))) 0
    ∗ semVal (kcell (c, some (true, 3))) 0
    ∗ semVal (kcell (c, some (true, 4))) 0
    ∗ semVal (kcell (c, some (true, 5))) 0
    ∗ semVal (kcell (c, some (true, 6))) 0
    ∗ semVal (kcell (c, some (true, 7))) 0
    ∗ semVal (kcell (c, some (true, 8))) 0
    ∗ semVal (kcell (c, some (true, 9))) 0
    ∗ semVal (kcell (c, some (true, 10))) 0
    ∗ semVal (kcell (c, some (true, 11))) 0
    ∗ semVal (kcell (c, some (true, 12))) 0
    ∗ semVal (kcell (c, some (true, 13))) 0
    ∗ semVal (kcell (c, some (true, 14))) 0)

omit [FloatOps F] in
theorem some_of {sp : Space} {s : Shape} {e : EltTy} (M : Memref sig .tc sp s e) (c : Dev nD) (f : Buf (Elt F) (M.view.loc (c : Thread nD τ))) :
    (pts M c fullShare f : sProp 𝕄) ⊢ someF M c := by
  unfold someF
  iintro H
  iexists f
  iexact H
omit [FloatOps F] in
theorem some_ex {sp : Space} {s : Shape} {e : EltTy} (M : Memref sig .tc sp s e) (c : Dev nD) :
    (someF M c : sProp 𝕄) ⊢ iprop(∃ f : Buf (Elt F) (M.view.loc (c : Thread nD τ)), pts M c fullShare f) := Entails.rfl

/-! ## Buffers taken apart -/

theorem heads_of (M : Memref sig .tc .vmem S1024x512 .bf16) (c : Dev nD) :
    (someF M c : sProp 𝕄) ⊢ iprop(someF (hS M 0) c ∗ someF (hS M 1) c ∗ someF (hS M 2) c ∗ someF (hS M 3) c) := by
  refine (some_ex M c).trans ?_
  iintro ⟨%f, H⟩
  ihave T := (Entails.of_eq (four M c fullShare f)) $$ H
  icases T with ⟨H0, H1, H2, H3⟩
  isplitl [H0]; · iapply (some_of (hS M 0) c f); iexact H0
  isplitl [H1]; · iapply (some_of (hS M 1) c f); iexact H1
  isplitl [H2]; · iapply (some_of (hS M 2) c f); iexact H2
  iapply (some_of (hS M 3) c f); iexact H3

theorem slot_compl : Finset.univ \ (wS 0).view.set = (wS 1).view.set := by
  rw [set_wS0, set_wS1]
  ext i
  have hi : (i 0).val < 2 := (i 0).isLt
  constructor
  · intro h
    have h0 := (Finset.mem_sdiff.mp h).2
    refine Finset.mem_map.mpr ⟨i, (LoadRect.mem_set _).mpr fun a => ?_, rfl⟩
    match a with
    | ⟨0, _⟩ =>
      refine ⟨0, by show 0 < 1; omega, ?_⟩
      show (i 0).val = 1 + 1 * 0
      by_contra hne
      refine h0 (Finset.mem_map.mpr ⟨i, (LoadRect.mem_set _).mpr fun a => ?_, rfl⟩)
      match a with
      | ⟨0, _⟩ => exact ⟨0, by show 0 < 1; omega, by show (i 0).val = 0 + 1 * 0; omega⟩
      | ⟨1, _⟩ => exact ⟨(i 1).val, (i 1).isLt, by show (i 1).val = 0 + 1 * (i 1).val; omega⟩
      | ⟨2, _⟩ => exact ⟨(i 2).val, (i 2).isLt, by show (i 2).val = 0 + 1 * (i 2).val; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩
  · intro h
    obtain ⟨x, hx, rfl⟩ := Finset.mem_map.mp h
    refine Finset.mem_sdiff.mpr ⟨Finset.mem_univ _, fun h' => ?_⟩
    obtain ⟨y, hy, e⟩ := Finset.mem_map.mp h'
    have e' : y = x := woM.view.emb.injective e
    subst e'
    obtain ⟨j, hj, e1⟩ := (LoadRect.mem_set _).mp hx 0
    obtain ⟨k, hk, e2⟩ := (LoadRect.mem_set _).mp hy 0
    have hj' : j < 1 := hj
    have hk' : k < 1 := hk
    have e1' : (y 0).val = 1 + 1 * j := e1
    have e2' : (y 0).val = 0 + 1 * k := e2
    omega

theorem slots_of (c : Dev nD) : (someF woM c : sProp 𝕄) ⊢ iprop(someF (wS 0) c ∗ someF (wS 1) c) := by
  refine (some_ex woM c).trans ?_
  iintro ⟨%f, H⟩
  ihave T := (carve_whole c (b := cc0_scratch10) (wS 0).view.set fullShare f) $$ H
  rw [slot_compl]
  icases T with ⟨H0, H1⟩
  isplitl [H0]; · iapply (some_of (wS 0) c f); iexact H0
  iapply (some_of (wS 1) c f); iexact H1

theorem barY_of (c : Dev nD) :
    iprop(someF (F := F) ukrM c ∗ someF (F := F) uvrM c ∗ someF (F := F) crM c ∗ someF (F := F) opM c ∗ someF (F := F) odM c) ⊢ barY (F := F) (yp c) := by
  unfold barY
  rw [yp_yp]
  show _ ⊢ iprop(someF (F := F) ukrM c ∗ someF (F := F) uvrM c ∗ someF (F := F) crM c
    ∗ someF (F := F) (hS opM 0) c ∗ someF (F := F) (hS opM 1) c ∗ someF (F := F) (hS opM 2) c ∗ someF (F := F) (hS opM 3) c
    ∗ someF (F := F) (hS odM 0) c ∗ someF (F := F) (hS odM 1) c ∗ someF (F := F) (hS odM 2) c ∗ someF (F := F) (hS odM 3) c)
  iintro ⟨H0, H1, H2, Hp, Hd⟩
  ihave Tp := (heads_of opM c) $$ Hp
  icases Tp with ⟨P0, P1, P2, P3⟩
  ihave Td := (heads_of odM c) $$ Hd
  icases Td with ⟨D0, D1, D2, D3⟩
  isplitl [H0]; · iexact H0
  isplitl [H1]; · iexact H1
  isplitl [H2]; · iexact H2
  isplitl [P0]; · iexact P0
  isplitl [P1]; · iexact P1
  isplitl [P2]; · iexact P2
  isplitl [P3]; · iexact P3
  isplitl [D0]; · iexact D0
  isplitl [D1]; · iexact D1
  isplitl [D2]; · iexact D2
  iexact D3
theorem barX_of (c : Dev nD) : (someF (F := F) oxM c : sProp 𝕄) ⊢ barX (F := F) (xn c) := by
  unfold barX
  rw [xn_xn]
  exact heads_of oxM c

/-! ## And put together again -/

theorem wo_join (c : Dev nD) {w w' : Vec F S1x512x2048 .f32} : iprop(slotP c 0 w ∗ slotP c 1 w') ⊢ (someF woM c : sProp 𝕄) := by
  unfold slotP
  iintro ⟨⟨%f, -, H0⟩, ⟨%g, -, H1⟩⟩
  unfold someF
  iexists (wS 0).view.set.piecewise f g
  iapply (Entails.of_eq (pts_whole cc0_scratch10 c fullShare _).symm)
  iapply (pointsTo_join_subset (ℓ := woM.view.loc (c : Thread nD τ)) (I := (wS 0).view.set) (S := Finset.univ) (f := g) (g := f) (Finset.subset_univ _))
  rw [slot_compl]
  isplitl [H0]; · iexact H0
  iexact H1

theorem om_join (m : (ℓ : Loc nD τ sig) → Buf (Elt F) ℓ) (c : Dev nD) :
    iprop(pts (hS omM 0) c qX (om m c) ∗ pts (hS omM 1) c qX (om m c) ∗ pts (hS omM 2) c qX (om m c) ∗ pts (hS omM 3) c qX (om m c)
      ∗ pts (hS omM 0) c qY (om m c) ∗ pts (hS omM 1) c qY (om m c) ∗ pts (hS omM 2) c qY (om m c) ∗ pts (hS omM 3) c qY (om m c)
      ∗ pts omM c qK (om m c)) ⊢ (someF omM c : sProp 𝕄) := by
  iintro ⟨X0, X1, X2, X3, Y0, Y1, Y2, Y3, HK⟩
  ihave X := (Entails.of_eq (four omM c qX (om m c)).symm) $$ [X0 X1 X2 X3]
  · isplitl [X0]; · iexact X0
    isplitl [X1]; · iexact X1
    isplitl [X2]; · iexact X2
    iexact X3
  ihave Y := (Entails.of_eq (four omM c qY (om m c)).symm) $$ [Y0 Y1 Y2 Y3]
  · isplitl [Y0]; · iexact Y0
    isplitl [Y1]; · iexact Y1
    isplitl [Y2]; · iexact Y2
    iexact Y3
  iapply (some_of omM c (om m c))
  iapply (thirds_join _ _)
  isplitl [X]; · iexact X
  isplitl [Y]; · iexact Y
  iexact HK
theorem ox_join (m : (ℓ : Loc nD τ sig) → Buf (Elt F) ℓ) (c : Dev nD) :
    iprop(pts (hS oxM 0) c qX (om m (xn c)) ∗ pts (hS oxM 1) c qX (om m (xn c)) ∗ pts (hS oxM 2) c qX (om m (xn c)) ∗ pts (hS oxM 3) c qX (om m (xn c))
      ∗ pts oxM c fullShare.right (om m (xn c))) ⊢ (someF oxM c : sProp 𝕄) := by
  iintro ⟨X0, X1, X2, X3, HK⟩
  ihave X := (Entails.of_eq (four oxM c qX (om m (xn c))).symm) $$ [X0 X1 X2 X3]
  · isplitl [X0]; · iexact X0
    isplitl [X1]; · iexact X1
    isplitl [X2]; · iexact X2
    iexact X3
  iapply (some_of oxM c (om m (xn c)))
  iapply (halves _ fullShare _).2
  isplitl [X]; · iexact X
  iexact HK

end Cert.Mla

end
-- ==== Proof.BodyA.lean ====
/-
# The start of the body: the copies from HBM, the barrier, the first three transfers
-/
module

public import proofs.«01_k».proof.Proof.Parts

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The local copy of the device's columns of `Wq` in flight, and of those of `Wqr`. -/
def flQ : sProp 𝕄 := flight c 0 wqM iprop(pts wqM c fullShare (wqv m c) ∗ pts (qS c) c fullShare (m ((c : Thread nD τ).loc main_arg4)))
def flQr : sProp 𝕄 := flight c 3 wqrM iprop(pts wqrM c fullShare (wqrv m c) ∗ pts (qrS c) c fullShare (m ((c : Thread nD τ).loc main_arg5)))

/-- The rows of `Wo` lent to a copy: at the left half for slot 0, at the right half for slot 1. -/
abbrev oP (M : Memref sig .tc .hbm S512x2048 .f32) (q : PosShare TreeShare)
    (f : Buf (Elt F) (M.view.loc (c : Thread nD τ))) : sProp 𝕄 := pts M c q f

theorem part1_wp {Kt : _ → sProp 𝕄} :
    iprop((pts (qS c) c fullShare (m ((c : Thread nD τ).loc main_arg4)) ∗ someF wqM c ∗ semVal ((c : Thread nD τ), .dma (locS 0)) 0)
        ∗ (∀ v2 v5 v6 v7 v10, flQ m c -∗ Kt ⟨c, v2, v5, v6, v7, v10⟩))
      ⊢ wpD c (part1 (F := F)) Kt := by
  unfold part1
  simp only [k0_part1_eq_skeleton]
  unfold k0_part1_skel
  simp only [Prog.lift, Prog.bind_op, Prog.bind_ret, Prog.pure_eq_ret, wp_deviceId]
  unfold someF
  iintro ⟨⟨Hq, ⟨%f, Hw⟩, Hz⟩, Hk⟩
  iapply (copy_step c 0 rfl (src := qS c) (dst := wqM) (by decide)) $$ [Hq Hw Hz]
  · isplitl [Hq]; · iexact Hq
    isplitl [Hw]; · iexact Hw
    iexact Hz
  iintro Hf
  simp only [wp_ret]
  imodintro
  iapply Hk
  unfold flQ
  iapply (Transfers.Flight_mono _ _ (sep_mono (Entails.of_eq (pts_write wqM c fullShare (wqv m c) f (wqv m c) rfl)) Entails.rfl))
  iexact Hf

/-- What the barrier takes and gives. -/
def barPre : sProp 𝕄 :=
  iprop(cred (tallyAt (barCell c) () 2) ∗ atPos ER (barCell c) 0 ∅ 0 ∗ dutyTok ER (barCell (yp c)) 0 false ∗ dutyTok ER (barCell (xn c)) 0 true
    ∗ barY (F := F) (yp c) ∗ barX (F := F) (xn c) ∗ owesE c (O₀ c))

omit [FloatOps F] in
theorem barPre_of : iprop(cred (tallyAt (barCell c) () 2) ∗ atPos ER (barCell c) 0 ∅ 0 ∗ dutyTok ER (barCell (yp c)) 0 false ∗ dutyTok ER (barCell (xn c)) 0 true
    ∗ barY (F := F) (yp c) ∗ barX (F := F) (xn c) ∗ owesE c (O₀ c)) ⊢ barPre (F := F) c := Entails.rfl

theorem barrier_wp {α : Type} {Q : α → sProp 𝕄} {k : PUnit → Prog (TpuEff nD τ sig (Elt F) Λ₀ .tc) α} (n1 n2 : Dev nD) (h1 : n1 = yp c) (h2 : n2 = xn c) :
    iprop(records m K ∗ levAts L lv ∗ barPre (F := F) c)
      ⊢ iprop(((barY (F := F) c ∗ barX (F := F) c ∗ semVal (barCell c) 0 ∗ owesE c (owe c order)) -∗ wpD c (k ⟨⟩) Q)
          -∗ wpD c ((semSignalWord n1 barS 1#32).bind fun _ => (semSignalWord n2 barS 1#32).bind fun _ => (semWaitWord barS 2#32).bind k) Q) := by
  subst h1; subst h2
  simp only [semSignalWord, semWaitWord, Prog.lift, Prog.bind_op, Prog.bind_ret, Prog.pure_eq_ret]
  unfold barPre owesE
  iintro ⟨#HR, #Hlev, Hc, Hat, Ht1, Ht2, Hb1, Hb2, ⟨%W, HO⟩⟩ Hk
  ihave #HI1 := (inv_at m K (yp c, none)) $$ HR
  ihave #HI2 := (inv_at m K (xn c, none)) $$ HR
  ihave #HI := (inv_at m K (c, none)) $$ HR
  unfold O₀
  iapply (Rounds.wp_signal 𝒱₀ ER (rd m) (c : Thread nD τ) none (dst := (yp c : Thread nD τ)) (κ := K (yp c, none))
      (d := false) (by show _ ∈ (rd (F := F) m).duties (barCell (yp c)) 0; rw [duties_k]; exact Finset.mem_univ _) ((amount_k m (yp c) none false).trans (by decide)) () (O₁ c) rfl)
    $$ [HO Ht1 Hb1]
  · isplitr; · iexact HI1
    isplitl [HO]; · iexact HO
    isplitl [Ht1]; · iexact Ht1
    isplitl [Hb1]
    · iapply (Entails.of_eq (show barY (F := F) (yp c) = (rd m).payload ((yp c : Thread nD τ), SemLoc.reg barS) 0 false from (payload_k m (yp c) none false).symm))
      iexact Hb1
    iapply (reached_at m K (yp c, none)); iexact HR
  iintro HO
  unfold O₁
  iapply (Rounds.wp_signal 𝒱₀ ER (rd m) (c : Thread nD τ) none (dst := (xn c : Thread nD τ)) (κ := K (xn c, none))
      (d := true) (by show _ ∈ (rd (F := F) m).duties (barCell (xn c)) 0; rw [duties_k]; exact Finset.mem_univ _) ((amount_k m (xn c) none true).trans (by decide)) () (owe c order) rfl)
    $$ [HO Ht2 Hb2]
  · isplitr; · iexact HI2
    isplitl [HO]; · iexact HO
    isplitl [Ht2]; · iexact Ht2
    isplitl [Hb2]
    · iapply (Entails.of_eq (show barX (F := F) (xn c) = (rd m).payload ((xn c : Thread nD τ), SemLoc.reg barS) 0 true from (payload_k m (xn c) none true).symm))
      iexact Hb2
    iapply (reached_at m K (xn c, none)); iexact HR
  iintro HO
  iapply (Rounds.wp_wait_rest_token 𝒱₀ ER (rd m) (c : Thread nD τ) none (κ := K (c, none))
      (wpE_semWait_eq 𝒱₀ (c : Thread nD τ) none Set.univ) (Set.mem_univ _) () (O := owe c order) (W := W) (R := 0) (m := 0) (T := ∅)
      (by show _ = (rd (F := F) m).expect (barCell c) 0; rw [expect_bar]; decide)) $$ [Hc HO Hat]
  · isplitr; · iexact HI
    isplitl [Hc]; · iexact Hc
    isplitl [HO]; · iexact HO
    isplitr
    · iapply (mayWait_owe c (.reg barS) order (by decide)); iexact Hlev
    iexact Hat
  iintro ⟨HO, Hat, -, Hpay⟩
  ihave Hp := (Entails.of_eq (show bigSep ((rd (F := F) m).duties ((c : Thread nD τ), SemLoc.reg barS) 0 \ ∅) (fun d => (rd (F := F) m).payload ((c : Thread nD τ), SemLoc.reg barS) 0 d)
    = iprop(barY c ∗ barX c) from rest_bar m c)) $$ Hpay
  icases Hp with ⟨HpY, HpX⟩
  imod (Rounds.cell_close ER (rd m) (Set.mem_univ (K (c, none))) (fun h => h) (R := 0 + 1) (duties_later m (barCell c))) $$ [Hat] with Hz
  · isplitr; · iexact HI
    iexact Hat
  iapply Hk
  isplitl [HpY]; · iexact HpY
  isplitl [HpX]; · iexact HpX
  isplitl [Hz]; · iexact Hz
  iexists _; iexact HO

theorem part2_wp {v2 v5 v6 v7} {Kt : _ → sProp 𝕄} :
    iprop((records m K ∗ levAts L lv ∗ barPre (F := F) c ∗ pts (qrS c) c fullShare (m ((c : Thread nD τ).loc main_arg5)) ∗ someF wqrM c ∗ someF (wS 0) c ∗ someF (wS 1) c
          ∗ pts (oS1 c) c fullShare.left (m ((c : Thread nD τ).loc main_arg7)) ∗ pts (oS2 c) c fullShare.right (m ((c : Thread nD τ).loc main_arg7))
          ∗ semVal ((c : Thread nD τ), .dma (locS 3)) 0 ∗ semVal ((c : Thread nD τ), .dma (locS 1)) 0 ∗ semVal ((c : Thread nD τ), .dma (locS 2)) 0)
        ∗ ((flQr m c ∗ slotFl c 0 (wo1 m c) (pts (oS1 c) c fullShare.left (m ((c : Thread nD τ).loc main_arg7)))
              ∗ slotFl c 1 (wo2 m c) (pts (oS2 c) c fullShare.right (m ((c : Thread nD τ).loc main_arg7)))
              ∗ barY (F := F) c ∗ barX (F := F) c ∗ semVal (barCell c) 0 ∗ owesE c (owe c order)) -∗ Kt ⟨⟩))
      ⊢ wpD c (part2 (F := F) c v2 v5 v6 v7) Kt := by
  unfold part2
  simp only [k0_part2_eq_skeleton]
  unfold k0_part2_skel
  simp only [Prog.lift, Prog.bind_op, Prog.bind_ret, Prog.pure_eq_ret, wp_deviceId]
  unfold someF
  iintro ⟨⟨#HR, #Hlev, Hbar, Hq, ⟨%f, Hw⟩, ⟨%f0, Hw0⟩, ⟨%f1, Hw1⟩, Ho1, Ho2, Hz3, Hz1, Hz2⟩, Hk⟩
  iapply (copy_step c 3 rfl (src := qrS c) (dst := wqrM) (by decide)) $$ [Hq Hw Hz3]
  · isplitl [Hq]; · iexact Hq
    isplitl [Hw]; · iexact Hw
    iexact Hz3
  iintro Hf3
  iapply (copy_step c 1 rfl (src := oS1 c) (dst := wS 0) (by decide)) $$ [Ho1 Hw0 Hz1]
  · isplitl [Ho1]; · iexact Ho1
    isplitl [Hw0]; · iexact Hw0
    iexact Hz1
  iintro Hf1
  iapply (copy_step c 2 rfl (src := oS2 c) (dst := wS 1) (by decide)) $$ [Ho2 Hw1 Hz2]
  · isplitl [Ho2]; · iexact Ho2
    isplitl [Hw1]; · iexact Hw1
    iexact Hz2
  iintro Hf2
  iapply (barrier_wp m K c _ _ (Fin.ext (k0_dev1_eq c)) (Fin.ext (k0_dev2_eq c))) $$ [Hbar]
  · isplitr; · iexact HR
    isplitr; · iexact Hlev
    iexact Hbar
  iintro ⟨HbY, HbX, Hz, HO⟩
  simp only [wp_ret]
  imodintro
  iapply Hk
  isplitl [Hf3]
  · unfold flQr
    iapply (Transfers.Flight_mono _ _ (sep_mono (Entails.of_eq (pts_write wqrM c fullShare (wqrv m c) f (wqrv m c) rfl)) Entails.rfl))
    iexact Hf3
  isplitl [Hf1]
  · iapply (slotFl_intro0 c _ _ _ (View.read_write_univ _ _)); iexact Hf1
  isplitl [Hf2]
  · iapply (slotFl_intro1 c _ _ _ (View.read_write_univ _ _)); iexact Hf2
  isplitl [HbY]; · iexact HbY
  isplitl [HbX]; · iexact HbX
  isplitl [Hz]; · iexact Hz
  iexact HO

/-- The received halves of `Wuk` and `Wuv` and the compressed activations; what the first three transfers need. -/
theorem part3_wp {v2 v6} {Kt : _ → sProp 𝕄} :
    iprop((records m K ∗ levAts L lv ∗ sTok c 0 ∗ sTok c 1 ∗ sTok c 2 ∗ landing (F := F) (yp c) 0 ∗ landing (F := F) (yp c) 1 ∗ landing (F := F) (yp c) 2
          ∗ pts (ukS c) c fullShare (uk0 m c) ∗ pts (uvS c) c fullShare (uv0 m c) ∗ pts xM c fullShare (x0 m c) ∗ pts dkvM c fullShare (dkv0 m c)
          ∗ someF csM c ∗ flQ m c ∗ owesE c (owe c order))
        ∗ ((wTok c false 0 ∗ wTok c false 1 ∗ wTok c false 2 ∗ pts xM c fullShare (x0 m c) ∗ pts dkvM c fullShare (dkv0 m c)
              ∗ pts wqM c fullShare (wqv m c) ∗ pts (qS c) c fullShare (m ((c : Thread nD τ).loc main_arg4))
              ∗ semVal ((c : Thread nD τ), .dma (locS 0)) 0 ∗ owesE c (owe c [7, 3, 8, 4, 9, 5, 10, 6, 11, 12, 13, 14])) -∗ Kt ⟨v73 m c, v78 m c, wqv m c⟩))
      ⊢ wpD c (part3 (F := F) c v2 v6) Kt := by
  unfold part3 v73 v78
  simp only [k0_part3_eq_skeleton]
  unfold k0_part3_skel
  simp only [Prog.lift, Prog.bind_op, Prog.bind_ret, Prog.pure_eq_ret]
  iintro ⟨⟨#HR, #Hlev, Ht0, Ht1, Ht2, Hl0, Hl1, Hl2, Huk, Huv, Hx, Hd, Hcs, HfQ, HO⟩, Hk⟩
  iapply (send_step m K c 0 [1, 2, 7, 3, 8, 4, 9, 5, 10, 6, 11, 12, 13, 14] _ (Fin.ext (k0_dev3_eq c)) (src := ukS c) (dst := ukrM) rfl rfl rfl
      rfl rfl (g := ukr m (yp c)) rfl (by show ukr m (yp c) = _; unfold ukr; rw [yp_yp])) $$ [Ht0 Huk Hl0 HO]
  · isplitr; · iexact HR
    isplitl [Ht0]; · iexact Ht0
    isplitl [Huk]; · iexact Huk
    isplitl [Hl0]; · iexact Hl0
    iexact HO
  iintro ⟨Hw0, HO⟩
  iapply (send_step m K c 1 [2, 7, 3, 8, 4, 9, 5, 10, 6, 11, 12, 13, 14] _ (Fin.ext (k0_dev4_eq c)) (src := uvS c) (dst := uvrM) rfl rfl rfl
      rfl rfl (g := uvr m (yp c)) rfl (by show uvr m (yp c) = _; unfold uvr; rw [yp_yp])) $$ [Ht1 Huv Hl1 HO]
  · isplitr; · iexact HR
    isplitl [Ht1]; · iexact Ht1
    isplitl [Huv]; · iexact Huv
    isplitl [Hl1]; · iexact Hl1
    iexact HO
  iintro ⟨Hw1, HO⟩
  iapply (load_all c (f := x0 m c) (x0 m c) (Memref.readAt_unit_zero (Elt F) _ hz2 _ _)) $$ [Hx]
  · iexact Hx
  iintro Hx
  iapply (load_all c (f := dkv0 m c) (dkv0 m c) (Memref.readAt_unit_zero (Elt F) _ hz2 _ _)) $$ [Hd]
  · iexact Hd
  iintro Hd
  unfold someF
  icases Hcs with ⟨%f, Hcs⟩
  iapply (load_all c (M := csM) (f := f) f (Memref.readAt_unit_zero (Elt F) _ hz2 _ _)) $$ [Hcs]
  · iexact Hcs
  iintro Hcs
  iapply (store_all c (M := csM) (f₀ := f) (cs m c) (Memref.write_access_unit_zero_univ (Elt F) _ hz2 _ _ _)) $$ [Hcs]
  · iexact Hcs
  iintro Hcs
  iapply (send_step m K c 2 [7, 3, 8, 4, 9, 5, 10, 6, 11, 12, 13, 14] _ (Fin.ext (k0_dev5_eq c)) (src := csM) (dst := crM) rfl rfl rfl
      rfl rfl (g := cr m (yp c)) rfl (by show cr m (yp c) = cs m c; unfold cr; rw [yp_yp])) $$ [Ht2 Hcs Hl2 HO]
  · isplitr; · iexact HR
    isplitl [Ht2]; · iexact Ht2
    isplitl [Hcs]; · iexact Hcs
    isplitl [Hl2]; · iexact Hl2
    iexact HO
  iintro ⟨Hw2, HO⟩
  unfold flQ
  iapply (copied_step c 0 [7, 3, 8, 4, 9, 5, 10, 6, 11, 12, 13, 14] (by decide) rfl) $$ [HfQ HO]
  · isplitr; · iexact Hlev
    isplitl [HfQ]; · iexact HfQ
    iexact HO
  iintro ⟨⟨Hwq, Hq⟩, Hz, HO⟩
  iapply (load_all c (M := wqM) (f := wqv m c) (wqv m c) (Memref.readAt_unit_zero (Elt F) _ hz2 _ _)) $$ [Hwq]
  · iexact Hwq
  iintro Hwq
  simp only [wp_ret]
  imodintro
  iapply Hk
  isplitl [Hw0]; · iexact Hw0
  isplitl [Hw1]; · iexact Hw1
  isplitl [Hw2]; · iexact Hw2
  isplitl [Hx]; · iexact Hx
  isplitl [Hd]; · iexact Hd
  isplitl [Hwq]; · iexact Hwq
  isplitl [Hq]; · iexact Hq
  isplitl [Hz]; · iexact Hz
  iexact HO

end Cert.Mla

end
-- ==== Proof.BodyB.lean ====
/-
# The middle of the body: the projections, the keys and the first head
-/
module

public import proofs.«01_k».proof.Proof.Parts
public import proofs.«01_k».proof.Proof.BodyA

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The projections of the queries and of the rope key; the halves of `Wuk` exchanged. -/
theorem part4_wp {v2 v6} {Kt : _ → sProp 𝕄} :
    iprop((records m K ∗ levAts L lv ∗ flQr m c ∗ pts krM c fullShare (kr0 m c) ∗ wTok c false 0 ∗ wTok c true 0 ∗ owesE c (owe c [7, 3, 8, 4, 9, 5, 10, 6, 11, 12, 13, 14]))
        ∗ ((pts wqrM c fullShare (wqrv m c) ∗ pts (qrS c) c fullShare (m ((c : Thread nD τ).loc main_arg5)) ∗ semVal ((c : Thread nD τ), .dma (locS 3)) 0 ∗ pts krM c fullShare (kr0 m c) ∗ pts (ukS c) c fullShare (uk0 m c) ∗ semVal (kcell (c, some (false, 0))) 0 ∗ pts ukrM c fullShare (ukr m c) ∗ semVal (kcell (c, some (true, 0))) 0 ∗ owesE c (owe c [7, 3, 8, 4, 9, 5, 10, 6, 11, 12, 13, 14])) -∗ Kt ⟨v108 m c, v112 m c, v116 m c⟩))
      ⊢ wpD c (part4 (F := F) c v2 v6 (v73 m c) (wqv m c)) Kt := by
  unfold part4 v108 v112 v116
  simp only [k0_part4_eq_skeleton]
  unfold k0_part4_skel
  simp only [Prog.lift, Prog.bind_op, Prog.bind_ret, Prog.pure_eq_ret]
  iintro ⟨⟨#HR, #Hlev, flQr, kr, ws0, wr0, O⟩, Hk⟩
  unfold flQr
  iapply (copied_step c 3 [7, 3, 8, 4, 9, 5, 10, 6, 11, 12, 13, 14] (by decide) rfl) $$ [flQr O]
  · isplitr; · iexact Hlev
    isplitl [flQr]; · iexact flQr
    iexact O
  iintro ⟨⟨wqr, qr⟩, zl3, O⟩
  iapply (load_all c (M := wqrM) (f := wqrv m c) (wqrv m c) (Memref.readAt_unit_zero (Elt F) _ hz2 _ _)) $$ [wqr]
  · iexact wqr
  iintro wqr
  iapply (load_all c (M := krM) (f := kr0 m c) (kr0 m c) (Memref.readAt_unit_zero (Elt F) _ hz2 _ _)) $$ [kr]
  · iexact kr
  iintro kr
  iapply (wait_to m K c false 0 [7, 3, 8, 4, 9, 5, 10, 6, 11, 12, 13, 14] (pts (ukS c) c fullShare (uk0 m c)) rfl rfl (creditA _ 0 (by decide)) (by decide)) $$ [ws0 O]
  · isplitr; · iexact HR
    isplitr; · iexact Hlev
    isplitl [ws0]; · iexact ws0
    iexact O
  iintro ⟨ps0, zs0, O⟩
  iapply (wait_to m K c true 0 [7, 3, 8, 4, 9, 5, 10, 6, 11, 12, 13, 14] (pts ukrM c fullShare (ukr m c)) rfl rfl (creditA _ 0 (by decide)) (by decide)) $$ [wr0 O]
  · isplitr; · iexact HR
    isplitr; · iexact Hlev
    isplitl [wr0]; · iexact wr0
    iexact O
  iintro ⟨pr0, zr0, O⟩
  simp only [wp_ret]
  imodintro
  iapply Hk
  isplitl [wqr]; · iexact wqr
  isplitl [qr]; · iexact qr
  isplitl [zl3]; · iexact zl3
  isplitl [kr]; · iexact kr
  isplitl [ps0]; · iexact ps0
  isplitl [zs0]; · iexact zs0
  isplitl [pr0]; · iexact pr0
  isplitl [zr0]; · iexact zr0
  iexact O

/-- The halves of `Wuv` and the compressed activations exchanged; the keys. -/
theorem part5_wp {v2 v6 v10} {Kt : _ → sProp 𝕄} :
    iprop((records m K ∗ levAts L lv ∗ wTok c false 1 ∗ wTok c true 1 ∗ wTok c false 2 ∗ wTok c true 2 ∗ pts (ukS c) c fullShare (uk0 m c) ∗ pts ukrM c fullShare (ukr m c) ∗ (ukM.view.loc (c : Thread nD τ) ↦[Finset.univ \ (ukS c).view.set]{fullShare} (uk0 m c)) ∗ (uvM.view.loc (c : Thread nD τ) ↦[Finset.univ \ (uvS c).view.set]{fullShare} (uv0 m c)) ∗ owesE c (owe c [7, 3, 8, 4, 9, 5, 10, 6, 11, 12, 13, 14]))
        ∗ ((pts csM c fullShare (cs m c) ∗ pts crM c fullShare (cr m c) ∗ pts ukM c fullShare (uk0 m c) ∗ pts uvM c fullShare (uv0 m c) ∗ pts ukrM c fullShare (ukr m c) ∗ pts uvrM c fullShare (uvr m c) ∗ semVal (kcell (c, some (false, 1))) 0 ∗ semVal (kcell (c, some (true, 1))) 0 ∗ semVal (kcell (c, some (false, 2))) 0 ∗ semVal (kcell (c, some (true, 2))) 0 ∗ owesE c (owe c [7, 3, 8, 4, 9, 5, 10, 6, 11, 12, 13, 14])) -∗ Kt ⟨cr m c, v155 m c, v159 m c⟩))
      ⊢ wpD c (part5 (F := F) c v2 v6 v10 (v78 m c)) Kt := by
  unfold part5 v155 v159
  simp only [k0_part5_eq_skeleton]
  unfold k0_part5_skel
  simp only [Prog.lift, Prog.bind_op, Prog.bind_ret, Prog.pure_eq_ret]
  iintro ⟨⟨#HR, #Hlev, ws1, wr1, ws2, wr2, ps0, pr0, ukRest, uvRest, O⟩, Hk⟩
  iapply (wait_to m K c false 1 [7, 3, 8, 4, 9, 5, 10, 6, 11, 12, 13, 14] (pts (uvS c) c fullShare (uv0 m c)) rfl rfl (creditA _ 1 (by decide)) (by decide)) $$ [ws1 O]
  · isplitr; · iexact HR
    isplitr; · iexact Hlev
    isplitl [ws1]; · iexact ws1
    iexact O
  iintro ⟨ps1, zs1, O⟩
  iapply (wait_to m K c true 1 [7, 3, 8, 4, 9, 5, 10, 6, 11, 12, 13, 14] (pts uvrM c fullShare (uvr m c)) rfl rfl (creditA _ 1 (by decide)) (by decide)) $$ [wr1 O]
  · isplitr; · iexact HR
    isplitr; · iexact Hlev
    isplitl [wr1]; · iexact wr1
    iexact O
  iintro ⟨pr1, zr1, O⟩
  iapply (wait_to m K c false 2 [7, 3, 8, 4, 9, 5, 10, 6, 11, 12, 13, 14] (pts csM c fullShare (cs m c)) rfl rfl (creditB _ 2 (by decide)) (by decide)) $$ [ws2 O]
  · isplitr; · iexact HR
    isplitr; · iexact Hlev
    isplitl [ws2]; · iexact ws2
    iexact O
  iintro ⟨ps2, zs2, O⟩
  iapply (wait_to m K c true 2 [7, 3, 8, 4, 9, 5, 10, 6, 11, 12, 13, 14] (pts crM c fullShare (cr m c)) rfl rfl (creditB _ 2 (by decide)) (by decide)) $$ [wr2 O]
  · isplitr; · iexact HR
    isplitr; · iexact Hlev
    isplitl [wr2]; · iexact wr2
    iexact O
  iintro ⟨pr2, zr2, O⟩
  iapply (load_all c (M := crM) (f := cr m c) (cr m c) (Memref.readAt_unit_zero (Elt F) _ hz2 _ _)) $$ [pr2]
  · iexact pr2
  iintro pr2
  ihave uk := (uncarve_whole c (b := cc0_stg2_0) _ _ _) $$ [ps0 ukRest]
  · isplitl [ps0]; · iexact ps0
    iexact ukRest
  iapply (load_all c (M := ukM) (f := uk0 m c) (uko m c) rfl) $$ [uk]
  · iexact uk
  iintro uk
  iapply (load_all c (M := ukrM) (f := ukr m c) (ukr m c) (Memref.readAt_unit_zero (Elt F) _ hz2 _ _)) $$ [pr0]
  · iexact pr0
  iintro pr0
  ihave uv := (uncarve_whole c (b := cc0_stg3_0) _ _ _) $$ [ps1 uvRest]
  · isplitl [ps1]; · iexact ps1
    iexact uvRest
  iapply (load_all c (M := uvM) (f := uv0 m c) (uvo m c) rfl) $$ [uv]
  · iexact uv
  iintro uv
  simp only [wp_ret]
  imodintro
  iapply Hk
  isplitl [ps2]; · iexact ps2
  isplitl [pr2]; · iexact pr2
  isplitl [uk]; · iexact uk
  isplitl [uv]; · iexact uv
  isplitl [pr0]; · iexact pr0
  isplitl [pr1]; · iexact pr1
  isplitl [zs1]; · iexact zs1
  isplitl [zr1]; · iexact zr1
  isplitl [zs2]; · iexact zs2
  isplitl [zr2]; · iexact zr2
  iexact O

/-- The first head, and its transfer along the first axis. -/
theorem part6_wp {v2 v5 v7} {Kt : _ → sProp 𝕄} :
    iprop((records m K ∗ levAts L lv ∗ pts uvrM c fullShare (uvr m c) ∗ someF (hS omM 0) c ∗ sTok c 7 ∗ landing (F := F) (xn c) 7 ∗ owesE c (owe c [7, 3, 8, 4, 9, 5, 10, 6, 11, 12, 13, 14]))
        ∗ (∀ v195, (pts uvrM c fullShare (uvr m c) ∗ wTok c false 7 ∗ pts (hS omM 0) c qY (om m c) ∗ pts (hS omM 0) c qK (om m c) ∗ owesE c (owe c [3, 8, 4, 9, 5, 10, 6, 11, 12, 13, 14])) -∗ Kt ⟨v165 m c, v195⟩))
      ⊢ wpD c (part6 (F := F) c v2 v5 v7 (v78 m c) (v108 m c) (v112 m c) (v116 m c) (cr m c) (v155 m c) (v159 m c)) Kt := by
  unfold part6 v165
  simp only [k0_part6_eq_skeleton]
  unfold k0_part6_skel
  simp only [Prog.lift, Prog.bind_op, Prog.bind_ret, Prog.pure_eq_ret]
  iintro ⟨⟨#HR, #Hlev, pr1, om0S, t7, l7, O⟩, Hk⟩
  iapply (load_all c (M := uvrM) (f := uvr m c) (uvr m c) (Memref.readAt_unit_zero (Elt F) _ hz2 _ _)) $$ [pr1]
  · iexact pr1
  iintro pr1
  unfold someF
  icases om0S with ⟨%f0, om0S⟩
  iapply (load_head c (M := omM) 0 (f := f0)) $$ [om0S]
  · iexact om0S
  iintro om0S
  iapply (store_head m c 0 0 rfl rfl (f₀ := f0)) $$ [om0S]
  · iexact om0S
  iintro om0S
  ihave T := (thirds _ _) $$ om0S
  icases T with ⟨om0X, om0Y, om0K⟩
  iapply (send_step m K c 7 [3, 8, 4, 9, 5, 10, 6, 11, 12, 13, 14] _ (Fin.ext (k0_dev6_eq c)) (src := hS omM 0) (dst := hS oxM 0) rfl rfl (creditB _ 7 (by decide)) rfl rfl rfl
      (by show (hS oxM 0).view.read (Elt F) (om m (xn (xn c))) = _; rw [xn_xn]; rfl)) $$ [t7 om0X l7 O]
  · isplitr; · iexact HR
    isplitl [t7]; · iexact t7
    isplitl [om0X]; · iexact om0X
    isplitl [l7]; · iexact l7
    iexact O
  iintro ⟨ws7, O⟩
  simp only [wp_ret]
  imodintro
  iapply Hk
  isplitl [pr1]; · iexact pr1
  isplitl [ws7]; · iexact ws7
  isplitl [om0Y]; · iexact om0Y
  isplitl [om0K]; · iexact om0K
  iexact O

end Cert.Mla

end
-- ==== Proof.BodyC.lean ====
/-
# The four heads, each sent to both neighbours as it is computed
-/
module

public import proofs.«01_k».proof.Proof.Parts
public import proofs.«01_k».proof.Proof.BodyA

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The first head to the second neighbour; the second head. -/
theorem part7_wp {v5 v6 v7 v195} {Kt : _ → sProp 𝕄} :
    iprop((records m K ∗ levAts L lv ∗ pts (hS omM 0) c qY (om m c) ∗ sTok c 3 ∗ landing (F := F) (yp c) 3 ∗ someF (hS omM 1) c ∗ sTok c 8 ∗ landing (F := F) (xn c) 8 ∗ owesE c (owe c [3, 8, 4, 9, 5, 10, 6, 11, 12, 13, 14]))
        ∗ ((wTok c false 3 ∗ wTok c false 8 ∗ pts (hS omM 1) c qY (om m c) ∗ pts (hS omM 1) c qK (om m c) ∗ owesE c (owe c [4, 9, 5, 10, 6, 11, 12, 13, 14])) -∗ Kt ⟨⟩))
      ⊢ wpD c (part7 (F := F) c v5 v6 v7 (v108 m c) (v112 m c) (v116 m c) (v155 m c) (v165 m c) v195) Kt := by
  unfold part7
  simp only [k0_part7_eq_skeleton]
  unfold k0_part7_skel
  simp only [Prog.lift, Prog.bind_op, Prog.bind_ret, Prog.pure_eq_ret]
  iintro ⟨⟨#HR, #Hlev, om0Y, t3, l3, om1S, t8, l8, O⟩, Hk⟩
  iapply (send_step m K c 3 [8, 4, 9, 5, 10, 6, 11, 12, 13, 14] _ (Fin.ext (k0_dev7_eq c)) (src := hS omM 0) (dst := hS opM 0) rfl rfl (creditB _ 3 (by decide)) rfl rfl rfl
      (by show (hS opM 0).view.read (Elt F) (om m (yp (yp c))) = _; rw [yp_yp]; rfl)) $$ [t3 om0Y l3 O]
  · isplitr; · iexact HR
    isplitl [t3]; · iexact t3
    isplitl [om0Y]; · iexact om0Y
    isplitl [l3]; · iexact l3
    iexact O
  iintro ⟨ws3, O⟩
  unfold someF
  icases om1S with ⟨%f1, om1S⟩
  iapply (load_head c (M := omM) 128 (f := f1)) $$ [om1S]
  · iexact om1S
  iintro om1S
  iapply (store_head m c 128 1 rfl rfl (f₀ := f1)) $$ [om1S]
  · iexact om1S
  iintro om1S
  ihave T := (thirds _ _) $$ om1S
  icases T with ⟨om1X, om1Y, om1K⟩
  iapply (send_step m K c 8 [4, 9, 5, 10, 6, 11, 12, 13, 14] _ (Fin.ext (k0_dev8_eq c)) (src := hS omM 1) (dst := hS oxM 1) rfl rfl (creditB _ 8 (by decide)) rfl rfl rfl
      (by show (hS oxM 1).view.read (Elt F) (om m (xn (xn c))) = _; rw [xn_xn]; rfl)) $$ [t8 om1X l8 O]
  · isplitr; · iexact HR
    isplitl [t8]; · iexact t8
    isplitl [om1X]; · iexact om1X
    isplitl [l8]; · iexact l8
    iexact O
  iintro ⟨ws8, O⟩
  simp only [wp_ret]
  imodintro
  iapply Hk
  isplitl [ws3]; · iexact ws3
  isplitl [ws8]; · iexact ws8
  isplitl [om1Y]; · iexact om1Y
  isplitl [om1K]; · iexact om1K
  iexact O

/-- The third head. -/
theorem part8_wp {v2 v5 v6 v7} {Kt : _ → sProp 𝕄} :
    iprop((records m K ∗ levAts L lv ∗ pts (hS omM 1) c qY (om m c) ∗ sTok c 4 ∗ landing (F := F) (yp c) 4 ∗ someF (hS omM 2) c ∗ owesE c (owe c [4, 9, 5, 10, 6, 11, 12, 13, 14]))
        ∗ ((wTok c false 4 ∗ pts (hS omM 2) c qX (om m c) ∗ pts (hS omM 2) c qY (om m c) ∗ pts (hS omM 2) c qK (om m c) ∗ owesE c (owe c [9, 5, 10, 6, 11, 12, 13, 14])) -∗ Kt ⟨⟩))
      ⊢ wpD c (part8 (F := F) c v2 v5 v6 v7 (v108 m c) (v112 m c) (v116 m c) (v155 m c) (v165 m c)) Kt := by
  unfold part8
  simp only [k0_part8_eq_skeleton]
  unfold k0_part8_skel
  simp only [Prog.lift, Prog.bind_op, Prog.bind_ret, Prog.pure_eq_ret]
  iintro ⟨⟨#HR, #Hlev, om1Y, t4, l4, om2S, O⟩, Hk⟩
  iapply (send_step m K c 4 [9, 5, 10, 6, 11, 12, 13, 14] _ (Fin.ext (k0_dev9_eq c)) (src := hS omM 1) (dst := hS opM 1) rfl rfl (creditB _ 4 (by decide)) rfl rfl rfl
      (by show (hS opM 1).view.read (Elt F) (om m (yp (yp c))) = _; rw [yp_yp]; rfl)) $$ [t4 om1Y l4 O]
  · isplitr; · iexact HR
    isplitl [t4]; · iexact t4
    isplitl [om1Y]; · iexact om1Y
    isplitl [l4]; · iexact l4
    iexact O
  iintro ⟨ws4, O⟩
  unfold someF
  icases om2S with ⟨%f2, om2S⟩
  iapply (load_head c (M := omM) 256 (f := f2)) $$ [om2S]
  · iexact om2S
  iintro om2S
  iapply (store_head m c 256 2 rfl rfl (f₀ := f2)) $$ [om2S]
  · iexact om2S
  iintro om2S
  ihave T := (thirds _ _) $$ om2S
  icases T with ⟨om2X, om2Y, om2K⟩
  simp only [wp_ret]
  imodintro
  iapply Hk
  isplitl [ws4]; · iexact ws4
  isplitl [om2X]; · iexact om2X
  isplitl [om2Y]; · iexact om2Y
  isplitl [om2K]; · iexact om2K
  iexact O

/-- The fourth head. -/
theorem part9_wp {v2 v5 v6 v7} {Kt : _ → sProp 𝕄} :
    iprop((records m K ∗ levAts L lv ∗ pts (hS omM 2) c qX (om m c) ∗ pts (hS omM 2) c qY (om m c) ∗ sTok c 9 ∗ landing (F := F) (xn c) 9 ∗ sTok c 5 ∗ landing (F := F) (yp c) 5 ∗ someF (hS omM 3) c ∗ owesE c (owe c [9, 5, 10, 6, 11, 12, 13, 14]))
        ∗ ((wTok c false 9 ∗ wTok c false 5 ∗ pts (hS omM 3) c qX (om m c) ∗ pts (hS omM 3) c qY (om m c) ∗ pts (hS omM 3) c qK (om m c) ∗ owesE c (owe c [10, 6, 11, 12, 13, 14])) -∗ Kt ⟨⟩))
      ⊢ wpD c (part9 (F := F) c v2 v5 v6 v7 (v108 m c) (v112 m c) (v116 m c) (v155 m c) (v165 m c)) Kt := by
  unfold part9
  simp only [k0_part9_eq_skeleton]
  unfold k0_part9_skel
  simp only [Prog.lift, Prog.bind_op, Prog.bind_ret, Prog.pure_eq_ret]
  iintro ⟨⟨#HR, #Hlev, om2X, om2Y, t9, l9, t5, l5, om3S, O⟩, Hk⟩
  iapply (send_step m K c 9 [5, 10, 6, 11, 12, 13, 14] _ (Fin.ext (k0_dev10_eq c)) (src := hS omM 2) (dst := hS oxM 2) rfl rfl (creditB _ 9 (by decide)) rfl rfl rfl
      (by show (hS oxM 2).view.read (Elt F) (om m (xn (xn c))) = _; rw [xn_xn]; rfl)) $$ [t9 om2X l9 O]
  · isplitr; · iexact HR
    isplitl [t9]; · iexact t9
    isplitl [om2X]; · iexact om2X
    isplitl [l9]; · iexact l9
    iexact O
  iintro ⟨ws9, O⟩
  iapply (send_step m K c 5 [10, 6, 11, 12, 13, 14] _ (Fin.ext (k0_dev11_eq c)) (src := hS omM 2) (dst := hS opM 2) rfl rfl (creditB _ 5 (by decide)) rfl rfl rfl
      (by show (hS opM 2).view.read (Elt F) (om m (yp (yp c))) = _; rw [yp_yp]; rfl)) $$ [t5 om2Y l5 O]
  · isplitr; · iexact HR
    isplitl [t5]; · iexact t5
    isplitl [om2Y]; · iexact om2Y
    isplitl [l5]; · iexact l5
    iexact O
  iintro ⟨ws5, O⟩
  unfold someF
  icases om3S with ⟨%f3, om3S⟩
  iapply (load_head c (M := omM) 384 (f := f3)) $$ [om3S]
  · iexact om3S
  iintro om3S
  iapply (store_head m c 384 3 rfl rfl (f₀ := f3)) $$ [om3S]
  · iexact om3S
  iintro om3S
  ihave T := (thirds _ _) $$ om3S
  icases T with ⟨om3X, om3Y, om3K⟩
  simp only [wp_ret]
  imodintro
  iapply Hk
  isplitl [ws9]; · iexact ws9
  isplitl [ws5]; · iexact ws5
  isplitl [om3X]; · iexact om3X
  isplitl [om3Y]; · iexact om3Y
  isplitl [om3K]; · iexact om3K
  iexact O

/-- The last head sent; the first block of the product with `Wo`. -/
theorem part10_wp {v2 v6} {Kt : _ → sProp 𝕄} :
    iprop((records m K ∗ levAts L lv ∗ pts (hS omM 3) c qX (om m c) ∗ pts (hS omM 3) c qY (om m c) ∗ sTok c 10 ∗ landing (F := F) (xn c) 10 ∗ sTok c 6 ∗ landing (F := F) (yp c) 6 ∗ slotFl c 0 (wo1 m c) (pts (oS1 c) c fullShare.left (m ((c : Thread nD τ).loc main_arg7))) ∗ (oH.view.loc (c : Thread nD τ) ↦[Finset.univ \ (oS1 c).view.set]{fullShare.left} (m ((c : Thread nD τ).loc main_arg7))) ∗ pts (hS omM 0) c qK (om m c) ∗ pts (hS omM 1) c qK (om m c) ∗ pts (hS omM 2) c qK (om m c) ∗ pts (hS omM 3) c qK (om m c) ∗ owesE c (owe c [10, 6, 11, 12, 13, 14]))
        ∗ ((wTok c false 10 ∗ wTok c false 6 ∗ pts omM c qK (om m c) ∗ slotFl c 0 (wo3 m c) (pts (oS3 c) c fullShare.left (m ((c : Thread nD τ).loc main_arg7))) ∗ (oH.view.loc (c : Thread nD τ) ↦[Finset.univ \ (oS3 c).view.set]{fullShare.left} (m ((c : Thread nD τ).loc main_arg7))) ∗ owesE c (owe c [11, 12, 13, 14])) -∗ Kt (res1 m c)))
      ⊢ wpD c (part10 (F := F) c v2 v6) Kt := by
  unfold part10 res1
  simp only [k0_part10_eq_skeleton]
  unfold k0_part10_skel
  simp only [Prog.lift, Prog.bind_op, Prog.bind_ret, Prog.pure_eq_ret]
  iintro ⟨⟨#HR, #Hlev, om3X, om3Y, t10, l10, t6, l6, slot1, a1, om0K, om1K, om2K, om3K, O⟩, Hk⟩
  iapply (send_step m K c 10 [6, 11, 12, 13, 14] _ (Fin.ext (k0_dev12_eq c)) (src := hS omM 3) (dst := hS oxM 3) rfl rfl (creditB _ 10 (by decide)) rfl rfl rfl
      (by show (hS oxM 3).view.read (Elt F) (om m (xn (xn c))) = _; rw [xn_xn]; rfl)) $$ [t10 om3X l10 O]
  · isplitr; · iexact HR
    isplitl [t10]; · iexact t10
    isplitl [om3X]; · iexact om3X
    isplitl [l10]; · iexact l10
    iexact O
  iintro ⟨ws10, O⟩
  iapply (send_step m K c 6 [11, 12, 13, 14] _ (Fin.ext (k0_dev13_eq c)) (src := hS omM 3) (dst := hS opM 3) rfl rfl (creditB _ 6 (by decide)) rfl rfl rfl
      (by show (hS opM 3).view.read (Elt F) (om m (yp (yp c))) = _; rw [yp_yp]; rfl)) $$ [t6 om3Y l6 O]
  · isplitr; · iexact HR
    isplitl [t6]; · iexact t6
    isplitl [om3Y]; · iexact om3Y
    isplitl [l6]; · iexact l6
    iexact O
  iintro ⟨ws6, O⟩
  ihave slot1 := (slotFl_out0 c _ _) $$ slot1
  iapply (copied_step c 1 [11, 12, 13, 14] (by decide) rfl) $$ [slot1 O]
  · isplitr; · iexact Hlev
    isplitl [slot1]; · iexact slot1
    iexact O
  iintro ⟨⟨sl, os⟩, zl1, O⟩
  ihave omK := (Entails.of_eq (four omM c qK (om m c)).symm) $$ [om0K om1K om2K om3K]
  · isplitl [om0K]; · iexact om0K
    isplitl [om1K]; · iexact om1K
    isplitl [om2K]; · iexact om2K
    iexact om3K
  iapply (load_all c (M := omM) (f := om m c) (om m c) (Memref.readAt_unit_zero (Elt F) _ hz2 _ _)) $$ [omK]
  · iexact omK
  iintro omK
  iapply (load_slot0 c) $$ [sl]
  · iexact sl
  iintro sl
  ihave sl := (slotP_some0 c _) $$ sl
  ihave ow := (uncarve_whole c (b := main_arg7) _ _ _) $$ [os a1]
  · isplitl [os]; · iexact os
    iexact a1
  ihave ow := (carve_whole c (b := main_arg7) (oS3 c).view.set fullShare.left (m ((c : Thread nD τ).loc main_arg7))) $$ ow
  icases ow with ⟨os, a3⟩
  iapply (copy_slot0 c rfl (src := oS3 c) (q := fullShare.left) (fs := (m ((c : Thread nD τ).loc main_arg7)))) $$ [os sl zl1]
  · isplitl [os]; · iexact os
    isplitl [sl]; · iexact sl
    iexact zl1
  iintro slot3
  simp only [wp_ret]
  imodintro
  iapply Hk
  isplitl [ws10]; · iexact ws10
  isplitl [ws6]; · iexact ws6
  isplitl [omK]; · iexact omK
  isplitl [slot3]; · iexact slot3
  isplitl [a3]; · iexact a3
  iexact O

end Cert.Mla

end
-- ==== Proof.BodyD.lean ====
/-
# The heads received along the first axis, passed on along the second
-/
module

public import proofs.«01_k».proof.Proof.Parts
public import proofs.«01_k».proof.Proof.BodyA

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The neighbour's first head passed on. -/
theorem part11_wp {v2 v5 v6 v7} {Kt : _ → sProp 𝕄} :
    iprop((records m K ∗ levAts L lv ∗ wTok c false 7 ∗ wTok c true 7 ∗ sTok c 11 ∗ landing (F := F) (yp c) 11 ∗ owesE c (owe c [11, 12, 13, 14]))
        ∗ ((pts (hS omM 0) c qX (om m c) ∗ semVal (kcell (c, some (false, 7))) 0 ∗ semVal (kcell (c, some (true, 7))) 0 ∗ wTok c false 11 ∗ pts (hS oxM 0) c fullShare.right (om m (xn c)) ∗ owesE c (owe c [12, 13, 14])) -∗ Kt ⟨⟩))
      ⊢ wpD c (part11 (F := F) c v2 v5 v6 v7) Kt := by
  unfold part11
  simp only [k0_part11_eq_skeleton]
  unfold k0_part11_skel
  simp only [Prog.lift, Prog.bind_op, Prog.bind_ret, Prog.pure_eq_ret]
  iintro ⟨⟨#HR, #Hlev, ws7, wr7, t11, l11, O⟩, Hk⟩
  iapply (wait_to m K c false 7 [11, 12, 13, 14] (pts (hS omM 0) c qX (om m c)) rfl rfl (creditB _ 7 (by decide)) (by decide)) $$ [ws7 O]
  · isplitr; · iexact HR
    isplitr; · iexact Hlev
    isplitl [ws7]; · iexact ws7
    iexact O
  iintro ⟨ps7, zs7, O⟩
  iapply (wait_to m K c true 7 [11, 12, 13, 14] (pts (hS oxM 0) c fullShare (om m (xn c))) rfl rfl (creditB _ 7 (by decide)) (by decide)) $$ [wr7 O]
  · isplitr; · iexact HR
    isplitr; · iexact Hlev
    isplitl [wr7]; · iexact wr7
    iexact O
  iintro ⟨pr7, zr7, O⟩
  ihave T := ((halves _ fullShare (om m (xn c))).1) $$ pr7
  icases T with ⟨ox0X, ox0R⟩
  iapply (send_step m K c 11 [12, 13, 14] _ (Fin.ext (k0_dev14_eq c)) (src := hS oxM 0) (dst := hS odM 0) rfl rfl (creditB _ 11 (by decide)) rfl rfl rfl
      (by show (hS odM 0).view.read (Elt F) (om m (xn (yp (yp c)))) = _; rw [yp_yp]; rfl)) $$ [t11 ox0X l11 O]
  · isplitr; · iexact HR
    isplitl [t11]; · iexact t11
    isplitl [ox0X]; · iexact ox0X
    isplitl [l11]; · iexact l11
    iexact O
  iintro ⟨ws11, O⟩
  simp only [wp_ret]
  imodintro
  iapply Hk
  isplitl [ps7]; · iexact ps7
  isplitl [zs7]; · iexact zs7
  isplitl [zr7]; · iexact zr7
  isplitl [ws11]; · iexact ws11
  isplitl [ox0R]; · iexact ox0R
  iexact O

/-- The neighbour's second head passed on. -/
theorem part12_wp {v2 v5 v6 v7} {Kt : _ → sProp 𝕄} :
    iprop((records m K ∗ levAts L lv ∗ wTok c false 8 ∗ wTok c true 8 ∗ sTok c 12 ∗ landing (F := F) (yp c) 12 ∗ wTok c false 9 ∗ owesE c (owe c [12, 13, 14]))
        ∗ ((pts (hS omM 1) c qX (om m c) ∗ semVal (kcell (c, some (false, 8))) 0 ∗ semVal (kcell (c, some (true, 8))) 0 ∗ wTok c false 12 ∗ pts (hS oxM 1) c fullShare.right (om m (xn c)) ∗ pts (hS omM 2) c qX (om m c) ∗ semVal (kcell (c, some (false, 9))) 0 ∗ owesE c (owe c [13, 14])) -∗ Kt ⟨⟩))
      ⊢ wpD c (part12 (F := F) c v2 v5 v6 v7) Kt := by
  unfold part12
  simp only [k0_part12_eq_skeleton]
  unfold k0_part12_skel
  simp only [Prog.lift, Prog.bind_op, Prog.bind_ret, Prog.pure_eq_ret]
  iintro ⟨⟨#HR, #Hlev, ws8, wr8, t12, l12, ws9, O⟩, Hk⟩
  iapply (wait_to m K c false 8 [12, 13, 14] (pts (hS omM 1) c qX (om m c)) rfl rfl (creditB _ 8 (by decide)) (by decide)) $$ [ws8 O]
  · isplitr; · iexact HR
    isplitr; · iexact Hlev
    isplitl [ws8]; · iexact ws8
    iexact O
  iintro ⟨ps8, zs8, O⟩
  iapply (wait_to m K c true 8 [12, 13, 14] (pts (hS oxM 1) c fullShare (om m (xn c))) rfl rfl (creditB _ 8 (by decide)) (by decide)) $$ [wr8 O]
  · isplitr; · iexact HR
    isplitr; · iexact Hlev
    isplitl [wr8]; · iexact wr8
    iexact O
  iintro ⟨pr8, zr8, O⟩
  ihave T := ((halves _ fullShare (om m (xn c))).1) $$ pr8
  icases T with ⟨ox1X, ox1R⟩
  iapply (send_step m K c 12 [13, 14] _ (Fin.ext (k0_dev15_eq c)) (src := hS oxM 1) (dst := hS odM 1) rfl rfl (creditB _ 12 (by decide)) rfl rfl rfl
      (by show (hS odM 1).view.read (Elt F) (om m (xn (yp (yp c)))) = _; rw [yp_yp]; rfl)) $$ [t12 ox1X l12 O]
  · isplitr; · iexact HR
    isplitl [t12]; · iexact t12
    isplitl [ox1X]; · iexact ox1X
    isplitl [l12]; · iexact l12
    iexact O
  iintro ⟨ws12, O⟩
  iapply (wait_to m K c false 9 [13, 14] (pts (hS omM 2) c qX (om m c)) rfl rfl (creditB _ 9 (by decide)) (by decide)) $$ [ws9 O]
  · isplitr; · iexact HR
    isplitr; · iexact Hlev
    isplitl [ws9]; · iexact ws9
    iexact O
  iintro ⟨ps9, zs9, O⟩
  simp only [wp_ret]
  imodintro
  iapply Hk
  isplitl [ps8]; · iexact ps8
  isplitl [zs8]; · iexact zs8
  isplitl [zr8]; · iexact zr8
  isplitl [ws12]; · iexact ws12
  isplitl [ox1R]; · iexact ox1R
  isplitl [ps9]; · iexact ps9
  isplitl [zs9]; · iexact zs9
  iexact O

/-- The neighbour's third head passed on. -/
theorem part13_wp {v2 v5 v6 v7} {Kt : _ → sProp 𝕄} :
    iprop((records m K ∗ levAts L lv ∗ wTok c true 9 ∗ sTok c 13 ∗ landing (F := F) (yp c) 13 ∗ wTok c false 10 ∗ wTok c true 10 ∗ owesE c (owe c [13, 14]))
        ∗ ((semVal (kcell (c, some (true, 9))) 0 ∗ wTok c false 13 ∗ pts (hS oxM 2) c fullShare.right (om m (xn c)) ∗ pts (hS omM 3) c qX (om m c) ∗ semVal (kcell (c, some (false, 10))) 0 ∗ pts (hS oxM 3) c fullShare (om m (xn c)) ∗ semVal (kcell (c, some (true, 10))) 0 ∗ owesE c (owe c [14])) -∗ Kt ⟨⟩))
      ⊢ wpD c (part13 (F := F) c v2 v5 v6 v7) Kt := by
  unfold part13
  simp only [k0_part13_eq_skeleton]
  unfold k0_part13_skel
  simp only [Prog.lift, Prog.bind_op, Prog.bind_ret, Prog.pure_eq_ret]
  iintro ⟨⟨#HR, #Hlev, wr9, t13, l13, ws10, wr10, O⟩, Hk⟩
  iapply (wait_to m K c true 9 [13, 14] (pts (hS oxM 2) c fullShare (om m (xn c))) rfl rfl (creditB _ 9 (by decide)) (by decide)) $$ [wr9 O]
  · isplitr; · iexact HR
    isplitr; · iexact Hlev
    isplitl [wr9]; · iexact wr9
    iexact O
  iintro ⟨pr9, zr9, O⟩
  ihave T := ((halves _ fullShare (om m (xn c))).1) $$ pr9
  icases T with ⟨ox2X, ox2R⟩
  iapply (send_step m K c 13 [14] _ (Fin.ext (k0_dev16_eq c)) (src := hS oxM 2) (dst := hS odM 2) rfl rfl (creditB _ 13 (by decide)) rfl rfl rfl
      (by show (hS odM 2).view.read (Elt F) (om m (xn (yp (yp c)))) = _; rw [yp_yp]; rfl)) $$ [t13 ox2X l13 O]
  · isplitr; · iexact HR
    isplitl [t13]; · iexact t13
    isplitl [ox2X]; · iexact ox2X
    isplitl [l13]; · iexact l13
    iexact O
  iintro ⟨ws13, O⟩
  iapply (wait_to m K c false 10 [14] (pts (hS omM 3) c qX (om m c)) rfl rfl (creditB _ 10 (by decide)) (by decide)) $$ [ws10 O]
  · isplitr; · iexact HR
    isplitr; · iexact Hlev
    isplitl [ws10]; · iexact ws10
    iexact O
  iintro ⟨ps10, zs10, O⟩
  iapply (wait_to m K c true 10 [14] (pts (hS oxM 3) c fullShare (om m (xn c))) rfl rfl (creditB _ 10 (by decide)) (by decide)) $$ [wr10 O]
  · isplitr; · iexact HR
    isplitr; · iexact Hlev
    isplitl [wr10]; · iexact wr10
    iexact O
  iintro ⟨pr10, zr10, O⟩
  simp only [wp_ret]
  imodintro
  iapply Hk
  isplitl [zr9]; · iexact zr9
  isplitl [ws13]; · iexact ws13
  isplitl [ox2R]; · iexact ox2R
  isplitl [ps10]; · iexact ps10
  isplitl [zs10]; · iexact zs10
  isplitl [pr10]; · iexact pr10
  isplitl [zr10]; · iexact zr10
  iexact O

/-- The neighbour's last head passed on; the second block of the product with `Wo`. -/
theorem part14_wp {v2 v6} {Kt : _ → sProp 𝕄} :
    iprop((records m K ∗ levAts L lv ∗ pts (hS oxM 3) c fullShare (om m (xn c)) ∗ sTok c 14 ∗ landing (F := F) (yp c) 14 ∗ slotFl c 1 (wo2 m c) (pts (oS2 c) c fullShare.right (m ((c : Thread nD τ).loc main_arg7))) ∗ (oH.view.loc (c : Thread nD τ) ↦[Finset.univ \ (oS2 c).view.set]{fullShare.right} (m ((c : Thread nD τ).loc main_arg7))) ∗ pts (hS oxM 0) c fullShare.right (om m (xn c)) ∗ pts (hS oxM 1) c fullShare.right (om m (xn c)) ∗ pts (hS oxM 2) c fullShare.right (om m (xn c)) ∗ owesE c (owe c [14]))
        ∗ ((wTok c false 14 ∗ pts oxM c fullShare.right (om m (xn c)) ∗ slotFl c 1 (wo4 m c) (pts (oS4 c) c fullShare.right (m ((c : Thread nD τ).loc main_arg7))) ∗ (oH.view.loc (c : Thread nD τ) ↦[Finset.univ \ (oS4 c).view.set]{fullShare.right} (m ((c : Thread nD τ).loc main_arg7))) ∗ owesE c (owe c [])) -∗ Kt (res2 m c)))
      ⊢ wpD c (part14 (F := F) c v2 v6 (res1 m c)) Kt := by
  unfold part14 res2
  simp only [k0_part14_eq_skeleton]
  unfold k0_part14_skel
  simp only [Prog.lift, Prog.bind_op, Prog.bind_ret, Prog.pure_eq_ret]
  iintro ⟨⟨#HR, #Hlev, pr10, t14, l14, slot2, a2, ox0R, ox1R, ox2R, O⟩, Hk⟩
  ihave T := ((halves _ fullShare (om m (xn c))).1) $$ pr10
  icases T with ⟨ox3X, ox3R⟩
  iapply (send_step m K c 14 [] _ (Fin.ext (k0_dev17_eq c)) (src := hS oxM 3) (dst := hS odM 3) rfl rfl (creditB _ 14 (by decide)) rfl rfl rfl
      (by show (hS odM 3).view.read (Elt F) (om m (xn (yp (yp c)))) = _; rw [yp_yp]; rfl)) $$ [t14 ox3X l14 O]
  · isplitr; · iexact HR
    isplitl [t14]; · iexact t14
    isplitl [ox3X]; · iexact ox3X
    isplitl [l14]; · iexact l14
    iexact O
  iintro ⟨ws14, O⟩
  ihave slot2 := (slotFl_out1 c _ _) $$ slot2
  iapply (copied_step c 2 [] (by decide) rfl) $$ [slot2 O]
  · isplitr; · iexact Hlev
    isplitl [slot2]; · iexact slot2
    iexact O
  iintro ⟨⟨sl, os⟩, zl2, O⟩
  ihave oxR := (Entails.of_eq (four oxM c fullShare.right (om m (xn c))).symm) $$ [ox0R ox1R ox2R ox3R]
  · isplitl [ox0R]; · iexact ox0R
    isplitl [ox1R]; · iexact ox1R
    isplitl [ox2R]; · iexact ox2R
    iexact ox3R
  iapply (load_all c (M := oxM) (f := om m (xn c)) (om m (xn c)) (Memref.readAt_unit_zero (Elt F) _ hz2 _ _)) $$ [oxR]
  · iexact oxR
  iintro oxR
  iapply (load_slot1 c) $$ [sl]
  · iexact sl
  iintro sl
  ihave sl := (slotP_some1 c _) $$ sl
  ihave ow := (uncarve_whole c (b := main_arg7) _ _ _) $$ [os a2]
  · isplitl [os]; · iexact os
    iexact a2
  ihave ow := (carve_whole c (b := main_arg7) (oS4 c).view.set fullShare.right (m ((c : Thread nD τ).loc main_arg7))) $$ ow
  icases ow with ⟨os, a4⟩
  iapply (copy_slot1 c rfl (src := oS4 c) (q := fullShare.right) (fs := (m ((c : Thread nD τ).loc main_arg7)))) $$ [os sl zl2]
  · isplitl [os]; · iexact os
    isplitl [sl]; · iexact sl
    iexact zl2
  iintro slot4
  simp only [wp_ret]
  imodintro
  iapply Hk
  isplitl [ws14]; · iexact ws14
  isplitl [oxR]; · iexact oxR
  isplitl [slot4]; · iexact slot4
  isplitl [a4]; · iexact a4
  iexact O

end Cert.Mla

end
-- ==== Proof.BodyE.lean ====
/-
# The heads received along the second axis, and the product finished
-/
module

public import proofs.«01_k».proof.Proof.Parts
public import proofs.«01_k».proof.Proof.BodyA

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The heads of the neighbour along the second axis. -/
theorem part15_wp {v2 v6} {Kt : _ → sProp 𝕄} :
    iprop((records m K ∗ levAts L lv ∗ wTok c false 3 ∗ wTok c true 3 ∗ wTok c false 4 ∗ wTok c true 4 ∗ owesE c (owe c []))
        ∗ ((pts (hS omM 0) c qY (om m c) ∗ semVal (kcell (c, some (false, 3))) 0 ∗ pts (hS opM 0) c fullShare (om m (yp c)) ∗ semVal (kcell (c, some (true, 3))) 0 ∗ pts (hS omM 1) c qY (om m c) ∗ semVal (kcell (c, some (false, 4))) 0 ∗ pts (hS opM 1) c fullShare (om m (yp c)) ∗ semVal (kcell (c, some (true, 4))) 0 ∗ owesE c (owe c [])) -∗ Kt ⟨⟩))
      ⊢ wpD c (part15 (F := F) v2 v6) Kt := by
  unfold part15
  simp only [k0_part15_eq_skeleton]
  unfold k0_part15_skel
  simp only [Prog.lift, Prog.bind_op, Prog.bind_ret, Prog.pure_eq_ret]
  iintro ⟨⟨#HR, #Hlev, ws3, wr3, ws4, wr4, O⟩, Hk⟩
  iapply (wait_to m K c false 3 [] (pts (hS omM 0) c qY (om m c)) rfl rfl (creditB _ 3 (by decide)) (by decide)) $$ [ws3 O]
  · isplitr; · iexact HR
    isplitr; · iexact Hlev
    isplitl [ws3]; · iexact ws3
    iexact O
  iintro ⟨ps3, zs3, O⟩
  iapply (wait_to m K c true 3 [] (pts (hS opM 0) c fullShare (om m (yp c))) rfl rfl (creditB _ 3 (by decide)) (by decide)) $$ [wr3 O]
  · isplitr; · iexact HR
    isplitr; · iexact Hlev
    isplitl [wr3]; · iexact wr3
    iexact O
  iintro ⟨pr3, zr3, O⟩
  iapply (wait_to m K c false 4 [] (pts (hS omM 1) c qY (om m c)) rfl rfl (creditB _ 4 (by decide)) (by decide)) $$ [ws4 O]
  · isplitr; · iexact HR
    isplitr; · iexact Hlev
    isplitl [ws4]; · iexact ws4
    iexact O
  iintro ⟨ps4, zs4, O⟩
  iapply (wait_to m K c true 4 [] (pts (hS opM 1) c fullShare (om m (yp c))) rfl rfl (creditB _ 4 (by decide)) (by decide)) $$ [wr4 O]
  · isplitr; · iexact HR
    isplitr; · iexact Hlev
    isplitl [wr4]; · iexact wr4
    iexact O
  iintro ⟨pr4, zr4, O⟩
  simp only [wp_ret]
  imodintro
  iapply Hk
  isplitl [ps3]; · iexact ps3
  isplitl [zs3]; · iexact zs3
  isplitl [pr3]; · iexact pr3
  isplitl [zr3]; · iexact zr3
  isplitl [ps4]; · iexact ps4
  isplitl [zs4]; · iexact zs4
  isplitl [pr4]; · iexact pr4
  isplitl [zr4]; · iexact zr4
  iexact O

/-- The heads of the neighbour along the second axis. -/
theorem part16_wp {v2 v6} {Kt : _ → sProp 𝕄} :
    iprop((records m K ∗ levAts L lv ∗ wTok c false 5 ∗ wTok c true 5 ∗ wTok c false 6 ∗ wTok c true 6 ∗ owesE c (owe c []))
        ∗ ((pts (hS omM 2) c qY (om m c) ∗ semVal (kcell (c, some (false, 5))) 0 ∗ pts (hS opM 2) c fullShare (om m (yp c)) ∗ semVal (kcell (c, some (true, 5))) 0 ∗ pts (hS omM 3) c qY (om m c) ∗ semVal (kcell (c, some (false, 6))) 0 ∗ pts (hS opM 3) c fullShare (om m (yp c)) ∗ semVal (kcell (c, some (true, 6))) 0 ∗ owesE c (owe c [])) -∗ Kt ⟨⟩))
      ⊢ wpD c (part16 (F := F) v2 v6) Kt := by
  unfold part16
  simp only [k0_part16_eq_skeleton]
  unfold k0_part16_skel
  simp only [Prog.lift, Prog.bind_op, Prog.bind_ret, Prog.pure_eq_ret]
  iintro ⟨⟨#HR, #Hlev, ws5, wr5, ws6, wr6, O⟩, Hk⟩
  iapply (wait_to m K c false 5 [] (pts (hS omM 2) c qY (om m c)) rfl rfl (creditB _ 5 (by decide)) (by decide)) $$ [ws5 O]
  · isplitr; · iexact HR
    isplitr; · iexact Hlev
    isplitl [ws5]; · iexact ws5
    iexact O
  iintro ⟨ps5, zs5, O⟩
  iapply (wait_to m K c true 5 [] (pts (hS opM 2) c fullShare (om m (yp c))) rfl rfl (creditB _ 5 (by decide)) (by decide)) $$ [wr5 O]
  · isplitr; · iexact HR
    isplitr; · iexact Hlev
    isplitl [wr5]; · iexact wr5
    iexact O
  iintro ⟨pr5, zr5, O⟩
  iapply (wait_to m K c false 6 [] (pts (hS omM 3) c qY (om m c)) rfl rfl (creditB _ 6 (by decide)) (by decide)) $$ [ws6 O]
  · isplitr; · iexact HR
    isplitr; · iexact Hlev
    isplitl [ws6]; · iexact ws6
    iexact O
  iintro ⟨ps6, zs6, O⟩
  iapply (wait_to m K c true 6 [] (pts (hS opM 3) c fullShare (om m (yp c))) rfl rfl (creditB _ 6 (by decide)) (by decide)) $$ [wr6 O]
  · isplitr; · iexact HR
    isplitr; · iexact Hlev
    isplitl [wr6]; · iexact wr6
    iexact O
  iintro ⟨pr6, zr6, O⟩
  simp only [wp_ret]
  imodintro
  iapply Hk
  isplitl [ps5]; · iexact ps5
  isplitl [zs5]; · iexact zs5
  isplitl [pr5]; · iexact pr5
  isplitl [zr5]; · iexact zr5
  isplitl [ps6]; · iexact ps6
  isplitl [zs6]; · iexact zs6
  isplitl [pr6]; · iexact pr6
  isplitl [zr6]; · iexact zr6
  iexact O

/-- The third block of the product with `Wo`. -/
theorem part17_wp {v2 v6} {Kt : _ → sProp 𝕄} :
    iprop((records m K ∗ levAts L lv ∗ slotFl c 0 (wo3 m c) (pts (oS3 c) c fullShare.left (m ((c : Thread nD τ).loc main_arg7))) ∗ pts (hS opM 0) c fullShare (om m (yp c)) ∗ pts (hS opM 1) c fullShare (om m (yp c)) ∗ pts (hS opM 2) c fullShare (om m (yp c)) ∗ pts (hS opM 3) c fullShare (om m (yp c)) ∗ wTok c false 11 ∗ wTok c true 11 ∗ wTok c false 12 ∗ owesE c (owe c []))
        ∗ ((slotP c 0 (wo3 m c) ∗ pts (oS3 c) c fullShare.left (m ((c : Thread nD τ).loc main_arg7)) ∗ semVal ((c : Thread nD τ), .dma (locS 1)) 0 ∗ pts opM c fullShare (om m (yp c)) ∗ pts (hS oxM 0) c qX (om m (xn c)) ∗ semVal (kcell (c, some (false, 11))) 0 ∗ pts (hS odM 0) c fullShare (om m (xn (yp c))) ∗ semVal (kcell (c, some (true, 11))) 0 ∗ pts (hS oxM 1) c qX (om m (xn c)) ∗ semVal (kcell (c, some (false, 12))) 0 ∗ owesE c (owe c [])) -∗ Kt (res3 m c)))
      ⊢ wpD c (part17 (F := F) c v2 v6 (res2 m c)) Kt := by
  unfold part17 res3
  simp only [k0_part17_eq_skeleton]
  unfold k0_part17_skel
  simp only [Prog.lift, Prog.bind_op, Prog.bind_ret, Prog.pure_eq_ret]
  iintro ⟨⟨#HR, #Hlev, slot3, pr3, pr4, pr5, pr6, ws11, wr11, ws12, O⟩, Hk⟩
  ihave slot3 := (slotFl_out0 c _ _) $$ slot3
  iapply (copied_step c 1 [] (by decide) rfl) $$ [slot3 O]
  · isplitr; · iexact Hlev
    isplitl [slot3]; · iexact slot3
    iexact O
  iintro ⟨⟨sl0, o3⟩, zl1, O⟩
  ihave opF := (Entails.of_eq (four opM c fullShare (om m (yp c))).symm) $$ [pr3 pr4 pr5 pr6]
  · isplitl [pr3]; · iexact pr3
    isplitl [pr4]; · iexact pr4
    isplitl [pr5]; · iexact pr5
    iexact pr6
  iapply (load_all c (M := opM) (f := om m (yp c)) (om m (yp c)) (Memref.readAt_unit_zero (Elt F) _ hz2 _ _)) $$ [opF]
  · iexact opF
  iintro opF
  iapply (load_slot0 c) $$ [sl0]
  · iexact sl0
  iintro sl0
  iapply (wait_to m K c false 11 [] (pts (hS oxM 0) c qX (om m (xn c))) rfl rfl (creditB _ 11 (by decide)) (by decide)) $$ [ws11 O]
  · isplitr; · iexact HR
    isplitr; · iexact Hlev
    isplitl [ws11]; · iexact ws11
    iexact O
  iintro ⟨ps11, zs11, O⟩
  iapply (wait_to m K c true 11 [] (pts (hS odM 0) c fullShare (om m (xn (yp c)))) rfl rfl (creditB _ 11 (by decide)) (by decide)) $$ [wr11 O]
  · isplitr; · iexact HR
    isplitr; · iexact Hlev
    isplitl [wr11]; · iexact wr11
    iexact O
  iintro ⟨pr11, zr11, O⟩
  iapply (wait_to m K c false 12 [] (pts (hS oxM 1) c qX (om m (xn c))) rfl rfl (creditB _ 12 (by decide)) (by decide)) $$ [ws12 O]
  · isplitr; · iexact HR
    isplitr; · iexact Hlev
    isplitl [ws12]; · iexact ws12
    iexact O
  iintro ⟨ps12, zs12, O⟩
  simp only [wp_ret]
  imodintro
  iapply Hk
  isplitl [sl0]; · iexact sl0
  isplitl [o3]; · iexact o3
  isplitl [zl1]; · iexact zl1
  isplitl [opF]; · iexact opF
  isplitl [ps11]; · iexact ps11
  isplitl [zs11]; · iexact zs11
  isplitl [pr11]; · iexact pr11
  isplitl [zr11]; · iexact zr11
  isplitl [ps12]; · iexact ps12
  isplitl [zs12]; · iexact zs12
  iexact O

/-- The heads of the device across. -/
theorem part18_wp {v2 v6} {Kt : _ → sProp 𝕄} :
    iprop((records m K ∗ levAts L lv ∗ wTok c true 12 ∗ wTok c false 13 ∗ wTok c true 13 ∗ wTok c false 14 ∗ owesE c (owe c []))
        ∗ ((pts (hS odM 1) c fullShare (om m (xn (yp c))) ∗ semVal (kcell (c, some (true, 12))) 0 ∗ pts (hS oxM 2) c qX (om m (xn c)) ∗ semVal (kcell (c, some (false, 13))) 0 ∗ pts (hS odM 2) c fullShare (om m (xn (yp c))) ∗ semVal (kcell (c, some (true, 13))) 0 ∗ pts (hS oxM 3) c qX (om m (xn c)) ∗ semVal (kcell (c, some (false, 14))) 0 ∗ owesE c (owe c [])) -∗ Kt ⟨⟩))
      ⊢ wpD c (part18 (F := F) v2 v6) Kt := by
  unfold part18
  simp only [k0_part18_eq_skeleton]
  unfold k0_part18_skel
  simp only [Prog.lift, Prog.bind_op, Prog.bind_ret, Prog.pure_eq_ret]
  iintro ⟨⟨#HR, #Hlev, wr12, ws13, wr13, ws14, O⟩, Hk⟩
  iapply (wait_to m K c true 12 [] (pts (hS odM 1) c fullShare (om m (xn (yp c)))) rfl rfl (creditB _ 12 (by decide)) (by decide)) $$ [wr12 O]
  · isplitr; · iexact HR
    isplitr; · iexact Hlev
    isplitl [wr12]; · iexact wr12
    iexact O
  iintro ⟨pr12, zr12, O⟩
  iapply (wait_to m K c false 13 [] (pts (hS oxM 2) c qX (om m (xn c))) rfl rfl (creditB _ 13 (by decide)) (by decide)) $$ [ws13 O]
  · isplitr; · iexact HR
    isplitr; · iexact Hlev
    isplitl [ws13]; · iexact ws13
    iexact O
  iintro ⟨ps13, zs13, O⟩
  iapply (wait_to m K c true 13 [] (pts (hS odM 2) c fullShare (om m (xn (yp c)))) rfl rfl (creditB _ 13 (by decide)) (by decide)) $$ [wr13 O]
  · isplitr; · iexact HR
    isplitr; · iexact Hlev
    isplitl [wr13]; · iexact wr13
    iexact O
  iintro ⟨pr13, zr13, O⟩
  iapply (wait_to m K c false 14 [] (pts (hS oxM 3) c qX (om m (xn c))) rfl rfl (creditB _ 14 (by decide)) (by decide)) $$ [ws14 O]
  · isplitr; · iexact HR
    isplitr; · iexact Hlev
    isplitl [ws14]; · iexact ws14
    iexact O
  iintro ⟨ps14, zs14, O⟩
  simp only [wp_ret]
  imodintro
  iapply Hk
  isplitl [pr12]; · iexact pr12
  isplitl [zr12]; · iexact zr12
  isplitl [ps13]; · iexact ps13
  isplitl [zs13]; · iexact zs13
  isplitl [pr13]; · iexact pr13
  isplitl [zr13]; · iexact zr13
  isplitl [ps14]; · iexact ps14
  isplitl [zs14]; · iexact zs14
  iexact O

end Cert.Mla

end
-- ==== Proof.Body.lean ====
/-
# The body of a device
-/
module

public import proofs.«01_k».proof.Proof.Held
public import proofs.«01_k».proof.Proof.BodyA
public import proofs.«01_k».proof.Proof.BodyB
public import proofs.«01_k».proof.Proof.BodyC
public import proofs.«01_k».proof.Proof.BodyD
public import proofs.«01_k».proof.Proof.BodyE

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The body, on what a device holds at launch. -/
theorem part19_wp {Kt : _ → sProp 𝕄} :
    iprop((records m K ∗ levAts L lv ∗ barIn (F := F) c ∗ toksIn (F := F) c ∗ locZ (F := F) c ∗ staged m c ∗ args m c ∗ scratch (F := F) c ∗ someF outM c)
        ∗ ((staged m c ∗ args m c ∗ scratch (F := F) c ∗ someF outM c ∗ locZ (F := F) c ∗ xferZ (F := F) c ∗ semVal (barCell c) 0 ∗ owesE c (owe c [])) -∗ Kt (res m c)))
      ⊢ wpD c (part19 (F := F)) Kt := by
  unfold part19
  simp only [k0_part19_eq_skeleton]
  unfold k0_part19_skel
  simp only [Prog.lift, Prog.bind_op, Prog.bind_ret, Prog.pure_eq_ret, wp_bind]
  unfold toksIn locZ staged args scratch xferZ res
  iintro ⟨⟨#HR, #Hlev, bar, ⟨t0, t1, t2, t3, t4, t5, t6, t7, t8, t9, t10, t11, t12, t13, t14, wr0, wr1, wr2, wr3, wr4, wr5, wr6, wr7, wr8, wr9, wr10, wr11, wr12, wr13, wr14⟩, ⟨zl0, zl1, zl2, zl3⟩, ⟨x, dkv, uk, uv, kr⟩, ⟨g4, g5, g7⟩, ⟨cs, cr, ukr, uvr, om, ox, op, od, wq, wqr, wo⟩, out⟩, Hk⟩
  ihave T := (carve_whole c (b := main_arg4) (qS c).view.set fullShare (m ((c : Thread nD τ).loc main_arg4))) $$ g4
  icases T with ⟨q, qRest⟩
  ihave T := (carve_whole c (b := main_arg5) (qrS c).view.set fullShare (m ((c : Thread nD τ).loc main_arg5))) $$ g5
  icases T with ⟨qr, qrRest⟩
  ihave T := ((halves _ fullShare _).1) $$ g7
  icases T with ⟨a7l, a7r⟩
  ihave T := (carve_whole c (b := main_arg7) (oS1 c).view.set fullShare.left (m ((c : Thread nD τ).loc main_arg7))) $$ a7l
  icases T with ⟨os1, a1⟩
  ihave T := (carve_whole c (b := main_arg7) (oS2 c).view.set fullShare.right (m ((c : Thread nD τ).loc main_arg7))) $$ a7r
  icases T with ⟨os2, a2⟩
  ihave T := (carve_whole c (b := cc0_stg2_0) (ukS c).view.set fullShare (uk0 m c)) $$ uk
  icases T with ⟨ukP, ukRest⟩
  ihave T := (carve_whole c (b := cc0_stg3_0) (uvS c).view.set fullShare (uv0 m c)) $$ uv
  icases T with ⟨uvP, uvRest⟩
  ihave T := (heads_of omM c) $$ om
  icases T with ⟨om0S, om1S, om2S, om3S⟩
  ihave T := (slots_of c) $$ wo
  icases T with ⟨sw0, sw1⟩
  ihave bY := (barY_of c) $$ [ukr uvr cr op od]
  · isplitl [ukr]; · iexact ukr
    isplitl [uvr]; · iexact uvr
    isplitl [cr]; · iexact cr
    isplitl [op]; · iexact op
    iexact od
  ihave bX := (barX_of c) $$ ox
  iapply (part1_wp m c)
  isplitl [q wq zl0]
  · isplitl [q]; · iexact q
    isplitl [wq]; · iexact wq
    iexact zl0
  iintro %v2 %v5 %v6 %v7 %v10 flQ
  dsimp only
  unfold barIn
  icases bar with ⟨b1, b2, b3, b4, b5⟩
  ihave bar := (barPre_of (F := F) c) $$ [b1 b2 b3 b4 b5 bY bX]
  · isplitl [b1]; · iexact b1
    isplitl [b2]; · iexact b2
    isplitl [b3]; · iexact b3
    isplitl [b4]; · iexact b4
    isplitl [bY]; · iexact bY
    isplitl [bX]; · iexact bX
    iexact b5
  iapply (part2_wp m K c)
  isplitl [bar qr wqr sw0 sw1 os1 os2 zl3 zl1 zl2]
  · isplitr; · iexact HR
    isplitr; · iexact Hlev
    isplitl [bar]; · iexact bar
    isplitl [qr]; · iexact qr
    isplitl [wqr]; · iexact wqr
    isplitl [sw0]; · iexact sw0
    isplitl [sw1]; · iexact sw1
    isplitl [os1]; · iexact os1
    isplitl [os2]; · iexact os2
    isplitl [zl3]; · iexact zl3
    isplitl [zl1]; · iexact zl1
    iexact zl2
  iintro ⟨flQr, slot1, slot2, bY, bX, zb, O⟩
  unfold barY barX
  icases bY with ⟨l0, l1, l2, l3, l4, l5, l6, l11, l12, l13, l14⟩
  icases bX with ⟨l7, l8, l9, l10⟩
  iapply (part3_wp m K c)
  isplitl [t0 t1 t2 l0 l1 l2 ukP uvP x dkv cs flQ O]
  · isplitr; · iexact HR
    isplitr; · iexact Hlev
    isplitl [t0]; · iexact t0
    isplitl [t1]; · iexact t1
    isplitl [t2]; · iexact t2
    isplitl [l0]; · iexact l0
    isplitl [l1]; · iexact l1
    isplitl [l2]; · iexact l2
    isplitl [ukP]; · iexact ukP
    isplitl [uvP]; · iexact uvP
    isplitl [x]; · iexact x
    isplitl [dkv]; · iexact dkv
    isplitl [cs]; · iexact cs
    isplitl [flQ]; · iexact flQ
    iexact O
  iintro ⟨ws0, ws1, ws2, x, dkv, wq, q, zl0, O⟩
  dsimp only
  iapply (part4_wp m K c)
  isplitl [flQr kr ws0 wr0 O]
  · isplitr; · iexact HR
    isplitr; · iexact Hlev
    isplitl [flQr]; · iexact flQr
    isplitl [kr]; · iexact kr
    isplitl [ws0]; · iexact ws0
    isplitl [wr0]; · iexact wr0
    iexact O
  iintro ⟨wqr, qr, zl3, kr, ps0, zs0, pr0, zr0, O⟩
  dsimp only
  iapply (part5_wp m K c)
  isplitl [ws1 wr1 ws2 wr2 ps0 pr0 ukRest uvRest O]
  · isplitr; · iexact HR
    isplitr; · iexact Hlev
    isplitl [ws1]; · iexact ws1
    isplitl [wr1]; · iexact wr1
    isplitl [ws2]; · iexact ws2
    isplitl [wr2]; · iexact wr2
    isplitl [ps0]; · iexact ps0
    isplitl [pr0]; · iexact pr0
    isplitl [ukRest]; · iexact ukRest
    isplitl [uvRest]; · iexact uvRest
    iexact O
  iintro ⟨ps2, pr2, uk, uv, pr0, pr1, zs1, zr1, zs2, zr2, O⟩
  dsimp only
  iapply (part6_wp m K c)
  isplitl [pr1 om0S t7 l7 O]
  · isplitr; · iexact HR
    isplitr; · iexact Hlev
    isplitl [pr1]; · iexact pr1
    isplitl [om0S]; · iexact om0S
    isplitl [t7]; · iexact t7
    isplitl [l7]; · iexact l7
    iexact O
  iintro %v195 ⟨pr1, ws7, om0Y, om0K, O⟩
  dsimp only
  iapply (part7_wp m K c)
  isplitl [om0Y t3 l3 om1S t8 l8 O]
  · isplitr; · iexact HR
    isplitr; · iexact Hlev
    isplitl [om0Y]; · iexact om0Y
    isplitl [t3]; · iexact t3
    isplitl [l3]; · iexact l3
    isplitl [om1S]; · iexact om1S
    isplitl [t8]; · iexact t8
    isplitl [l8]; · iexact l8
    iexact O
  iintro ⟨ws3, ws8, om1Y, om1K, O⟩
  iapply (part8_wp m K c)
  isplitl [om1Y t4 l4 om2S O]
  · isplitr; · iexact HR
    isplitr; · iexact Hlev
    isplitl [om1Y]; · iexact om1Y
    isplitl [t4]; · iexact t4
    isplitl [l4]; · iexact l4
    isplitl [om2S]; · iexact om2S
    iexact O
  iintro ⟨ws4, om2X, om2Y, om2K, O⟩
  iapply (part9_wp m K c)
  isplitl [om2X om2Y t9 l9 t5 l5 om3S O]
  · isplitr; · iexact HR
    isplitr; · iexact Hlev
    isplitl [om2X]; · iexact om2X
    isplitl [om2Y]; · iexact om2Y
    isplitl [t9]; · iexact t9
    isplitl [l9]; · iexact l9
    isplitl [t5]; · iexact t5
    isplitl [l5]; · iexact l5
    isplitl [om3S]; · iexact om3S
    iexact O
  iintro ⟨ws9, ws5, om3X, om3Y, om3K, O⟩
  iapply (part10_wp m K c)
  isplitl [om3X om3Y t10 l10 t6 l6 slot1 a1 om0K om1K om2K om3K O]
  · isplitr; · iexact HR
    isplitr; · iexact Hlev
    isplitl [om3X]; · iexact om3X
    isplitl [om3Y]; · iexact om3Y
    isplitl [t10]; · iexact t10
    isplitl [l10]; · iexact l10
    isplitl [t6]; · iexact t6
    isplitl [l6]; · iexact l6
    isplitl [slot1]; · iexact slot1
    isplitl [a1]; · iexact a1
    isplitl [om0K]; · iexact om0K
    isplitl [om1K]; · iexact om1K
    isplitl [om2K]; · iexact om2K
    isplitl [om3K]; · iexact om3K
    iexact O
  iintro ⟨ws10, ws6, omK, slot3, a3, O⟩
  iapply (part11_wp m K c)
  isplitl [ws7 wr7 t11 l11 O]
  · isplitr; · iexact HR
    isplitr; · iexact Hlev
    isplitl [ws7]; · iexact ws7
    isplitl [wr7]; · iexact wr7
    isplitl [t11]; · iexact t11
    isplitl [l11]; · iexact l11
    iexact O
  iintro ⟨ps7, zs7, zr7, ws11, ox0R, O⟩
  iapply (part12_wp m K c)
  isplitl [ws8 wr8 t12 l12 ws9 O]
  · isplitr; · iexact HR
    isplitr; · iexact Hlev
    isplitl [ws8]; · iexact ws8
    isplitl [wr8]; · iexact wr8
    isplitl [t12]; · iexact t12
    isplitl [l12]; · iexact l12
    isplitl [ws9]; · iexact ws9
    iexact O
  iintro ⟨ps8, zs8, zr8, ws12, ox1R, ps9, zs9, O⟩
  iapply (part13_wp m K c)
  isplitl [wr9 t13 l13 ws10 wr10 O]
  · isplitr; · iexact HR
    isplitr; · iexact Hlev
    isplitl [wr9]; · iexact wr9
    isplitl [t13]; · iexact t13
    isplitl [l13]; · iexact l13
    isplitl [ws10]; · iexact ws10
    isplitl [wr10]; · iexact wr10
    iexact O
  iintro ⟨zr9, ws13, ox2R, ps10, zs10, pr10, zr10, O⟩
  iapply (part14_wp m K c)
  isplitl [pr10 t14 l14 slot2 a2 ox0R ox1R ox2R O]
  · isplitr; · iexact HR
    isplitr; · iexact Hlev
    isplitl [pr10]; · iexact pr10
    isplitl [t14]; · iexact t14
    isplitl [l14]; · iexact l14
    isplitl [slot2]; · iexact slot2
    isplitl [a2]; · iexact a2
    isplitl [ox0R]; · iexact ox0R
    isplitl [ox1R]; · iexact ox1R
    isplitl [ox2R]; · iexact ox2R
    iexact O
  iintro ⟨ws14, oxR, slot4, a4, O⟩
  iapply (part15_wp m K c)
  isplitl [ws3 wr3 ws4 wr4 O]
  · isplitr; · iexact HR
    isplitr; · iexact Hlev
    isplitl [ws3]; · iexact ws3
    isplitl [wr3]; · iexact wr3
    isplitl [ws4]; · iexact ws4
    isplitl [wr4]; · iexact wr4
    iexact O
  iintro ⟨ps3, zs3, pr3, zr3, ps4, zs4, pr4, zr4, O⟩
  iapply (part16_wp m K c)
  isplitl [ws5 wr5 ws6 wr6 O]
  · isplitr; · iexact HR
    isplitr; · iexact Hlev
    isplitl [ws5]; · iexact ws5
    isplitl [wr5]; · iexact wr5
    isplitl [ws6]; · iexact ws6
    isplitl [wr6]; · iexact wr6
    iexact O
  iintro ⟨ps5, zs5, pr5, zr5, ps6, zs6, pr6, zr6, O⟩
  iapply (part17_wp m K c)
  isplitl [slot3 pr3 pr4 pr5 pr6 ws11 wr11 ws12 O]
  · isplitr; · iexact HR
    isplitr; · iexact Hlev
    isplitl [slot3]; · iexact slot3
    isplitl [pr3]; · iexact pr3
    isplitl [pr4]; · iexact pr4
    isplitl [pr5]; · iexact pr5
    isplitl [pr6]; · iexact pr6
    isplitl [ws11]; · iexact ws11
    isplitl [wr11]; · iexact wr11
    isplitl [ws12]; · iexact ws12
    iexact O
  iintro ⟨sl0, o3, zl1, opF, ps11, zs11, pr11, zr11, ps12, zs12, O⟩
  iapply (part18_wp m K c)
  isplitl [wr12 ws13 wr13 ws14 O]
  · isplitr; · iexact HR
    isplitr; · iexact Hlev
    isplitl [wr12]; · iexact wr12
    isplitl [ws13]; · iexact ws13
    isplitl [wr13]; · iexact wr13
    isplitl [ws14]; · iexact ws14
    iexact O
  iintro ⟨pr12, zr12, ps13, zs13, pr13, zr13, ps14, zs14, O⟩
  iapply (wait_to m K c true 14 [] (pts (hS odM 3) c fullShare (om m (xn (yp c)))) rfl rfl (creditB _ 14 (by decide)) (by decide)) $$ [wr14 O]
  · isplitr; · iexact HR
    isplitr; · iexact Hlev
    isplitl [wr14]; · iexact wr14
    iexact O
  iintro ⟨pr14, zr14, O⟩
  ihave slot4 := (slotFl_out1 c _ _) $$ slot4
  iapply (copied_step c 2 [] (by decide) rfl) $$ [slot4 O]
  · isplitr; · iexact Hlev
    isplitl [slot4]; · iexact slot4
    iexact O
  iintro ⟨⟨sl1, o4⟩, zl2, O⟩
  ihave od := (Entails.of_eq (four odM c fullShare (om m (xn (yp c)))).symm) $$ [pr11 pr12 pr13 pr14]
  · isplitl [pr11]; · iexact pr11
    isplitl [pr12]; · iexact pr12
    isplitl [pr13]; · iexact pr13
    iexact pr14
  iapply (load_all c (M := odM) (f := om m (xn (yp c))) (om m (xn (yp c))) (Memref.readAt_unit_zero (Elt F) _ hz2 _ _)) $$ [od]
  · iexact od
  iintro od
  iapply (load_slot1 c) $$ [sl1]
  · iexact sl1
  iintro sl1
  ihave out := (some_ex outM c) $$ out
  icases out with ⟨%fo, out⟩
  iapply (load_all c (M := outM) (f := fo) fo (Memref.readAt_unit_zero (Elt F) _ hz2 _ _)) $$ [out]
  · iexact out
  iintro out
  simp only [wp_ret]
  imodintro
  ihave g4 := (uncarve_whole c (b := main_arg4) _ _ _) $$ [q qRest]
  · isplitl [q]; · iexact q
    iexact qRest
  ihave g5 := (uncarve_whole c (b := main_arg5) _ _ _) $$ [qr qrRest]
  · isplitl [qr]; · iexact qr
    iexact qrRest
  ihave g7l := (uncarve_whole c (b := main_arg7) _ _ _) $$ [o3 a3]
  · isplitl [o3]; · iexact o3
    iexact a3
  ihave g7r := (uncarve_whole c (b := main_arg7) _ _ _) $$ [o4 a4]
  · isplitl [o4]; · iexact o4
    iexact a4
  ihave g7 := ((halves _ fullShare _).2) $$ [g7l g7r]
  · isplitl [g7l]; · iexact g7l
    iexact g7r
  ihave om := (om_join m c) $$ [ps7 ps8 ps9 ps10 ps3 ps4 ps5 ps6 omK]
  · isplitl [ps7]; · iexact ps7
    isplitl [ps8]; · iexact ps8
    isplitl [ps9]; · iexact ps9
    isplitl [ps10]; · iexact ps10
    isplitl [ps3]; · iexact ps3
    isplitl [ps4]; · iexact ps4
    isplitl [ps5]; · iexact ps5
    isplitl [ps6]; · iexact ps6
    iexact omK
  ihave ox := (ox_join m c) $$ [ps11 ps12 ps13 ps14 oxR]
  · isplitl [ps11]; · iexact ps11
    isplitl [ps12]; · iexact ps12
    isplitl [ps13]; · iexact ps13
    isplitl [ps14]; · iexact ps14
    iexact oxR
  ihave wo := (wo_join c) $$ [sl0 sl1]
  · isplitl [sl0]; · iexact sl0
    iexact sl1
  ihave cs := (some_of csM c _) $$ ps2
  ihave cr := (some_of crM c _) $$ pr2
  ihave ukr := (some_of ukrM c _) $$ pr0
  ihave uvr := (some_of uvrM c _) $$ pr1
  ihave op := (some_of opM c _) $$ opF
  ihave od := (some_of odM c _) $$ od
  ihave wq := (some_of wqM c _) $$ wq
  ihave wqr := (some_of wqrM c _) $$ wqr
  ihave out := (some_of outM c _) $$ out
  iapply Hk
  isplitl [x dkv uk uv kr]
  · isplitl [x]; · iexact x
    isplitl [dkv]; · iexact dkv
    isplitl [uk]; · iexact uk
    isplitl [uv]; · iexact uv
    iexact kr
  isplitl [g4 g5 g7]
  · isplitl [g4]; · iexact g4
    isplitl [g5]; · iexact g5
    iexact g7
  isplitl [cs cr ukr uvr om ox op od wq wqr wo]
  · isplitl [cs]; · iexact cs
    isplitl [cr]; · iexact cr
    isplitl [ukr]; · iexact ukr
    isplitl [uvr]; · iexact uvr
    isplitl [om]; · iexact om
    isplitl [ox]; · iexact ox
    isplitl [op]; · iexact op
    isplitl [od]; · iexact od
    isplitl [wq]; · iexact wq
    isplitl [wqr]; · iexact wqr
    iexact wo
  isplitl [out]; · iexact out
  isplitl [zl0 zl1 zl2 zl3]
  · isplitl [zl0]; · iexact zl0
    isplitl [zl1]; · iexact zl1
    isplitl [zl2]; · iexact zl2
    iexact zl3
  isplitl [zs0 zs1 zs2 zs3 zs4 zs5 zs6 zs7 zs8 zs9 zs10 zs11 zs12 zs13 zs14 zr0 zr1 zr2 zr3 zr4 zr5 zr6 zr7 zr8 zr9 zr10 zr11 zr12 zr13 zr14]
  · isplitl [zs0]; · iexact zs0
    isplitl [zs1]; · iexact zs1
    isplitl [zs2]; · iexact zs2
    isplitl [zs3]; · iexact zs3
    isplitl [zs4]; · iexact zs4
    isplitl [zs5]; · iexact zs5
    isplitl [zs6]; · iexact zs6
    isplitl [zs7]; · iexact zs7
    isplitl [zs8]; · iexact zs8
    isplitl [zs9]; · iexact zs9
    isplitl [zs10]; · iexact zs10
    isplitl [zs11]; · iexact zs11
    isplitl [zs12]; · iexact zs12
    isplitl [zs13]; · iexact zs13
    isplitl [zs14]; · iexact zs14
    isplitl [zr0]; · iexact zr0
    isplitl [zr1]; · iexact zr1
    isplitl [zr2]; · iexact zr2
    isplitl [zr3]; · iexact zr3
    isplitl [zr4]; · iexact zr4
    isplitl [zr5]; · iexact zr5
    isplitl [zr6]; · iexact zr6
    isplitl [zr7]; · iexact zr7
    isplitl [zr8]; · iexact zr8
    isplitl [zr9]; · iexact zr9
    isplitl [zr10]; · iexact zr10
    isplitl [zr11]; · iexact zr11
    isplitl [zr12]; · iexact zr12
    isplitl [zr13]; · iexact zr13
    iexact zr14
  isplitl [zb]; · iexact zb
  iexact O

/-- The whole body: the result is stored. -/
theorem body_wp {Kt : _ → sProp 𝕄} :
    iprop((records m K ∗ levAts L lv ∗ barIn (F := F) c ∗ toksIn (F := F) c ∗ locZ (F := F) c ∗ staged m c ∗ args m c ∗ scratch (F := F) c ∗ someF outM c)
        ∗ ((staged m c ∗ args m c ∗ scratch (F := F) c ∗ pts outM c fullShare (res m c) ∗ locZ (F := F) c ∗ xferZ (F := F) c ∗ semVal (barCell c) 0 ∗ owesE c (owe c [])) -∗ Kt ⟨⟩))
      ⊢ wpD c (body (F := F)) Kt := by
  unfold body
  simp only [cc0_body_eq_skeleton]
  unfold cc0_body_skel
  simp only [Prog.lift, Prog.bind_op, Prog.bind_ret, Prog.pure_eq_ret, wp_bind]
  iintro ⟨Hpre, Hk⟩
  iapply (part19_wp m K c)
  isplitl [Hpre]; · iexact Hpre
  iintro ⟨Hst, Har, Hsc, Hout, Hl, Hx, Hz, HO⟩
  ihave Hout := (some_ex outM c) $$ Hout
  icases Hout with ⟨%fo, Hout⟩
  iapply (store_all c (M := outM) (f₀ := fo) (res m c) (Memref.write_access_unit_zero_univ (Elt F) _ hz2 _ _ _)) $$ [Hout]
  · iexact Hout
  iintro Hout
  simp only [wp_ret]
  imodintro
  iapply Hk
  isplitl [Hst]; · iexact Hst
  isplitl [Har]; · iexact Har
  isplitl [Hsc]; · iexact Hsc
  isplitl [Hout]; · iexact Hout
  isplitl [Hl]; · iexact Hl
  isplitl [Hx]; · iexact Hx
  isplitl [Hz]; · iexact Hz
  iexact HO

end Cert.Mla

end
-- ==== Proof.Data.lean ====
/-
# The launch's set-up: what a device starts from, and the body's obligation

What a device starts from is stated with one conjunct per family of cells; `toksIn`, `xferZ` and `locZ` list the
same cells one by one.
-/
module

public import proofs.«01_k».proof.Proof.Body
public import Idealize.ShloMosaic.Lib.Pipeline.BigSepL

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The initial state. -/
def s₀ : MemSt nD τ sig (Elt F) := ⟨m, fun _ => 0, ρ⟩

/-! ## Families of cells, listed -/

abbrev l15 : List (Fin 15) := [0, 1, 2, 3, 4, 5, 6, 7, 8, 9, 10, 11, 12, 13, 14]

omit [FloatOps F] in
theorem fin15 (Φ : Fin 15 → sProp 𝕄) : bigSep Finset.univ Φ = bigSepL l15 Φ := bigSep_univ_eq_bigSepL l15 (by decide) (by decide) Φ

/-- Fifteen conjuncts and fifteen more, as thirty. -/
theorem thirty (Φ : Bool → Fin 15 → sProp 𝕄) :
    iprop(bigSep Finset.univ (Φ false) ∗ bigSep Finset.univ (Φ true))
      = bigSepL (l15.map (fun i => (false, i)) ++ l15.map (fun i => (true, i))) fun bi : Bool × Fin 15 => Φ bi.1 bi.2 := by
  rw [bigSepL_append, fin15, fin15]
  rfl

theorem toksIn_eq (c : Dev nD) :
    iprop((bigSep Finset.univ fun i => sTok (F := F) c i) ∗ (bigSep Finset.univ fun i => wTok (F := F) c true i)) = toksIn (F := F) c :=
  (thirty (F := F) fun b i => if b then wTok c true i else sTok c i).trans rfl

theorem xferZ_eq (c : Dev nD) :
    iprop((bigSep Finset.univ fun i => (semVal (sendCell c i) 0 : sProp 𝕄)) ∗ (bigSep Finset.univ fun i => (semVal (recvCell c i) 0 : sProp 𝕄))) = xferZ (F := F) c :=
  (thirty (F := F) fun b i => semVal (kcell (c, some (b, i))) 0).trans rfl

/-! ## What a device starts from -/

/-- Of the protocol's ghost state, what one device holds: its positions, and the tokens of the duties it pays. -/
def linear (c : Dev nD) : sProp 𝕄 :=
  iprop(atPos ER (barCell c) 0 ∅ 0 ∗ dutyTok ER (barCell (yp c)) 0 false ∗ dutyTok ER (barCell (xn c)) 0 true
    ∗ (bigSep Finset.univ fun i => sTok c i) ∗ (bigSep Finset.univ fun i => atPos ER (recvCell c i) 0 ∅ 0))
/-- The credits for what the others owe it. -/
def creds (c : Dev nD) : sProp 𝕄 :=
  iprop(cred (tallyAt (barCell c) () 2) ∗ (bigSep Finset.univ fun i => cred (tallyAt (recvCell c i) () (nOf i))))

def start (c : Dev nD) : sProp 𝕄 :=
  iprop((∃ K, records m K ∗ linear c) ∗ creds c ∗ locZ c ∗ levAts L lv ∗ args m c)

def Φ₀ (c : Dev nD) : sProp 𝕄 := iprop(start m c ∗ scratch c)
def Φ₁ (c : Dev nD) : sProp 𝕄 := iprop(args m c ∗ scratch c ∗ locZ c ∗ xferZ c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => x0 m c
    | ⟨1, _⟩ => dkv0 m c
    | ⟨2, _⟩ => uk0 m c
    | ⟨3, _⟩ => uv0 m c
    | ⟨4, _⟩ => kr0 m c
    | ⟨5, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 6)).fetch t = true := by rw [fin_N0 t]; rfl
theorem fetch_1 (t : Fin cfg0.N) : (cfg0.win (1 : Fin 6)).fetch t = true := by rw [fin_N0 t]; rfl
theorem fetch_2 (t : Fin cfg0.N) : (cfg0.win (2 : Fin 6)).fetch t = true := by rw [fin_N0 t]; rfl
theorem fetch_3 (t : Fin cfg0.N) : (cfg0.win (3 : Fin 6)).fetch t = true := by rw [fin_N0 t]; rfl
theorem fetch_4 (t : Fin cfg0.N) : (cfg0.win (4 : Fin 6)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_in (c : Dev nD) (b : Ref sig .tc) {X Y : b.ty.Contents (Elt F)} (h : X = Y) :
    (stg c b X : sProp 𝕄) ⊢ ((View.whole b).loc (c : Thread nD τ) ↦[(View.whole b).set]{fullShare} Y) := by
  subst h
  rw [pts_whole]
  iintro ⟨%f, %hf, H⟩
  subst hf
  iexact H
theorem stg_out (c : Dev nD) (b : Ref sig .tc) (X : b.ty.Contents (Elt F)) :
    ((View.whole b).loc (c : Thread nD τ) ↦[(View.whole b).set]{fullShare} X : sProp 𝕄) ⊢ stg c b X := by
  rw [pts_whole]
  iintro H
  iexists X
  isplitr; · ipureintro; rfl
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ m c ∗ (dats m ρ 0 c).owesAt () t0_0.succ ∗ stg c cc0_stg0_0 (x0 m c) ∗ stg c cc0_stg1_0 (dkv0 m c) ∗ stg c cc0_stg2_0 (uk0 m c)
    ∗ stg c cc0_stg3_0 (uv0 m c) ∗ stg c cc0_stg4_0 (kr0 m c) ∗ stg c cc0_stg5_0 (res m c))

theorem owes_in (c : Dev nD) : (dats m ρ 0 c).owesAt () t0_0.castSucc ⊢ owesE c (O₀ c) := by
  unfold Dat.owesAt Pipeline.owesWithin owesE
  rw [show (dats m ρ 0 c).owed t0_0.castSucc = O₀ c from rfl]
  iintro ⟨%W, -, H⟩
  iexists W
  iexact H
theorem owes_out (c : Dev nD) : owesE c (owe c []) ⊢ (dats m ρ 0 c).owesAt () t0_0.succ := by
  unfold Dat.owesAt Pipeline.owesWithin owesE
  rw [show (dats m ρ 0 c).owed t0_0.succ = owe c [] from rfl]
  iintro ⟨%W, H⟩
  iexists W
  isplitr; · ipureintro; exact fun _ _ => Or.inl trivial
  iexact H

theorem start_in (c : Dev nD) : iprop(start m c ∗ owesE c (O₀ c))
    ⊢ iprop(∃ K, records m K ∗ levAts L lv ∗ barIn c ∗ toksIn c ∗ locZ c ∗ args m c) := by
  unfold start linear creds barIn
  rw [← toksIn_eq]
  unfold wTok
  rw [bigSep_sep']
  iintro ⟨⟨⟨%K, HR, Hat, H1, H2, Hs, Hw⟩, ⟨Hcb, Hcw⟩, HZ, HL, HA⟩, HO⟩
  iexists K
  isplitl [HR]; · iexact HR
  isplitl [HL]; · iexact HL
  isplitl [Hcb Hat H1 H2 HO]
  · isplitl [Hcb]; · iexact Hcb
    isplitl [Hat]; · iexact Hat
    isplitl [H1]; · iexact H1
    isplitl [H2]; · iexact H2
    iexact HO
  isplitl [Hs Hw Hcw]
  · isplitl [Hs]; · iexact Hs
    isplitl [Hw]; · iexact Hw
    iexact Hcw
  isplitl [HZ]; · iexact HZ
  iexact HA

theorem body_run (c : Dev nD) : bodyPre m ρ c ⊢ wpD c (body (F := F)) (fun _ => bodyPost m ρ c) := by
  unfold bodyPre Φ₀
  iintro ⟨⟨Hst, Hscr⟩, Ho, ⟨%d0, S0⟩, ⟨%d1, S1⟩, ⟨%d2, S2⟩, ⟨%d3, S3⟩, ⟨%d4, S4⟩, ⟨%d5, S5⟩⟩
  ihave HO := (owes_in m ρ c) $$ Ho
  ihave T := (start_in m c) $$ [Hst HO]
  · isplitl [Hst] <;> iassumption
  icases T with ⟨%K, HR, HL, HB, HT, HZ, HA⟩
  ihave P0 := (stg_in (F := F) c cc0_stg0_0 (Y := x0 m c) (by unfold Dat.before; rw [if_pos (fetch_0 t0_0)]; rfl)) $$ S0
  ihave P1 := (stg_in (F := F) c cc0_stg1_0 (Y := dkv0 m c) (by unfold Dat.before; rw [if_pos (fetch_1 t0_0)]; rfl)) $$ S1
  ihave P2 := (stg_in (F := F) c cc0_stg2_0 (Y := uk0 m c) (by unfold Dat.before; rw [if_pos (fetch_2 t0_0)]; rfl)) $$ S2
  ihave P3 := (stg_in (F := F) c cc0_stg3_0 (Y := uv0 m c) (by unfold Dat.before; rw [if_pos (fetch_3 t0_0)]; rfl)) $$ S3
  ihave P4 := (stg_in (F := F) c cc0_stg4_0 (Y := kr0 m c) (by unfold Dat.before; rw [if_pos (fetch_4 t0_0)]; rfl)) $$ S4
  ihave P5 := (stg_in (F := F) c cc0_stg5_0 rfl) $$ S5
  iapply (body_wp m K c)
  isplitr []
  · isplitl [HR]; · iexact HR
    isplitl [HL]; · iexact HL
    isplitl [HB]; · iexact HB
    isplitl [HT]; · iexact HT
    isplitl [HZ]; · iexact HZ
    isplitl [P0 P1 P2 P3 P4]
    · unfold staged
      isplitl [P0]; · iexact P0
      isplitl [P1]; · iexact P1
      isplitl [P2]; · iexact P2
      isplitl [P3]; · iexact P3
      iexact P4
    isplitl [HA]; · iexact HA
    isplitl [Hscr]; · iexact Hscr
    iapply (some_of outM c _)
    iexact P5
  unfold staged
  iintro ⟨⟨P0, P1, P2, P3, P4⟩, HA, Hscr, P5, HZ, HX, HB, HO⟩
  unfold bodyPost Φ₁
  isplitl [HA Hscr HZ HX HB]
  · isplitl [HA]; · iexact HA
    isplitl [Hscr]; · iexact Hscr
    isplitl [HZ]; · iexact HZ
    isplitl [HX]; · iexact HX
    iexact HB
  isplitl [HO]; · iapply (owes_out m ρ c); iexact HO
  isplitl [P0]; · iapply (stg_out c cc0_stg0_0 _); iexact P0
  isplitl [P1]; · iapply (stg_out c cc0_stg1_0 _); iexact P1
  isplitl [P2]; · iapply (stg_out c cc0_stg2_0 _); iexact P2
  isplitl [P3]; · iapply (stg_out c cc0_stg3_0 _); iexact P3
  isplitl [P4]; · iapply (stg_out c cc0_stg4_0 _); iexact P4
  iapply (stg_out c cc0_stg5_0 _); iexact P5

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpD c (body (F := F)) (fun _ => bodyPost m ρ c)
  exact body_run m ρ c

end Cert.Mla

end
-- ==== Proof.Deal.lean ====
/-
# The ghost state dealt at launch

Every cell of the protocol starts with its state, its owner's position and its duty tokens. The tokens go to the devices
that pay them: a barrier's two tokens to the two neighbours, a receive cell's token to the device the transfer
comes from. All these maps are involutions.
-/
module

public import proofs.«01_k».proof.Proof.Data

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

set_option backward.proofsInPublic true in
def osem (i : Fin 34) : SemLoc sig := .dma ⟨6 + i.val, by have := i.isLt; show _ < 40; omega⟩

theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

theorem ownSems0_eq (c : Dev nD) : own0 (F := F) c = iprop(xferZ (F := F) c ∗ locZ (F := F) c) := by
  unfold own0
  rw [Pipeline.ownSems0_eq_of_list c osem
    ([0, 1, 2, 3, 4, 5, 6, 7, 8, 9, 10, 11, 12, 13, 14, 15, 16, 17, 18, 19, 20, 21, 22, 23, 24, 25, 26, 27, 28, 29] ++ [30, 31, 32, 33]) (by decide) (by decide),
    bigSepL_append]
  rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Families over the cells of a device -/

/-- The cells of a device: its barrier, its send cells, its receive cells. -/
theorem over_cells (Φ : CI → sProp 𝕄) : bigSep Finset.univ Φ
    = iprop(Φ none ∗ (bigSep Finset.univ fun i => Φ (some (false, i))) ∗ (bigSep Finset.univ fun i => Φ (some (true, i)))) := by
  rw [thirty fun b i => Φ (some (b, i))]
  rw [bigSep_univ_eq_bigSepL (none :: (l15.map (fun i => some (false, i)) ++ l15.map (fun i => some (true, i)))) (by decide) (by decide) Φ]
  rfl

theorem sems0_eq (c : Dev nD) :
    iprop(own0 (F := F) c ∗ unscopedSems0 c) ⊢ iprop((bigSep Finset.univ fun k : CI => (semVal (kcell (c, k)) 0 : sProp 𝕄)) ∗ locZ (F := F) c) := by
  rw [ownSems0_eq, unscopedSems0_eq, over_cells, ← xferZ_eq]
  iintro ⟨⟨HX, HL⟩, HB⟩
  isplitr [HL]; swap; · iexact HL
  isplitl [HB]; · iexact HB
  iexact HX

/-! ## The launch element -/

def mlaCells : Finset (GSem nD τ sig) := Finset.univ.map ⟨kcell, kcell_injective⟩

/-- The tokens minted on a device's own cells: one for each cell, and a second one for the barrier. -/
abbrev tokOf (cj : Dev nD × Option CI) : GSem nD τ sig × ℕ × Bool := (kcell (cj.1, cj.2.getD none), 0, cj.2.isNone)
theorem tokOf_injective : Function.Injective (tokOf : Dev nD × Option CI → GSem nD τ sig × ℕ × Bool) := by
  rintro ⟨c, j⟩ ⟨c', j'⟩ h
  have h1 := kcell_injective (congrArg (fun x : GSem nD τ sig × ℕ × Bool => x.1) h)
  have h2 : j.isNone = j'.isNone := congrArg (fun x : GSem nD τ sig × ℕ × Bool => x.2.2) h
  have hc : c = c' := congrArg Prod.fst h1
  have hj : j.getD none = j'.getD none := congrArg Prod.snd h1
  subst hc
  cases j with
  | none => cases j' with
    | none => rfl
    | some _ => cases h2
  | some k => cases j' with
    | none => cases h2
    | some k' => exact congrArg (fun k => (c, some k)) hj
def mlaToks : Finset (GSem nD τ sig × ℕ × Bool) := Finset.univ.map ⟨tokOf, tokOf_injective⟩

def u₀ : UU :=
  (initOf (Pipeline.cells cfgs cellOf_inj) (Pipeline.launchToks cfgs cellOf_inj), (initOf mlaCells mlaToks, 1))

omit [FloatOps F] in
theorem ownU_split (a : UR sig nD τ) (b : UB) :
    (ownU ((a, (b, 1)) : UU) : sProp 𝕄) ⊢ iprop(BI.own (EP (F := F) a) ∗ BI.own (ER (F := F) b)) := by
  unfold ER
  exact BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop(dutyTok ER (barCell c) 0 true ∗ dutyTok ER (barCell c) 0 false
    ∗ (bigSep Finset.univ fun i => dutyTok ER (sendCell c i) 0 false) ∗ (bigSep Finset.univ fun i => dutyTok ER (recvCell c i) 0 false))

/-- What the launch element deals device `c`. -/
def G (c : Dev nD) : sProp 𝕄 :=
  iprop((bigSep Finset.univ fun k : CI => roundState ER (rd m) (kcell (c, k)) 0)
    ∗ ((bigSep Finset.univ fun k : CI => atPos ER (kcell (c, k)) 0 ∅ 0) ∗ (bigSep Finset.univ fun k : CI => reached ER (kcell (c, k)) 0)) ∗ toks c)

/-- What the global step makes of it. -/
def G' (c : Dev nD) : sProp 𝕄 := iprop((∃ K, records m K ∗ linear c) ∗ locZ c)

theorem fund_cells : BI.own (ER (F := F) (initOf mlaCells mlaToks)) ⊢ (|==> bigSep Finset.univ (G m) : sProp 𝕄) := by
  have hX (Φ : GSem nD τ sig → sProp 𝕄) : bigSep mlaCells Φ = bigSep Finset.univ fun c : Dev nD => bigSep Finset.univ fun k : CI => Φ (kcell (c, k)) := by
    unfold mlaCells; rw [bigSep_map, bigSep_univ_prod]; rfl
  have hT : bigSep mlaToks (fun x => (dutyTok ER x.1 x.2.1 x.2.2 : sProp 𝕄)) = bigSep Finset.univ fun c : Dev nD => toks c := by
    unfold mlaToks; rw [bigSep_map, bigSep_univ_prod]
    refine bigSep_congr fun c _ => ?_
    have hO (Φ : Option CI → sProp 𝕄) : bigSep Finset.univ Φ = iprop(Φ none ∗ bigSep Finset.univ fun k => Φ (some k)) := by
      rw [bigSep_univ_at Φ none]
      congr 1
    rw [hO, over_cells]
    rfl
  iintro HX
  imod (Rounds.fund ER (rd m) mlaCells mlaToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

theorem core_alloc (c : Dev nD) :
    iprop(own0 (F := F) c ∗ unscopedSems0 c ∗ G m c)
      ⊢ |={Set.univ}=> iprop((bigSep Finset.univ fun k : CI => iprop(∃ κ : ℕ, cellInv ER (rd m) κ (kcell (c, k))))
          ∗ (bigSep Finset.univ fun k : CI => reached ER (kcell (c, k)) 0)
          ∗ (bigSep Finset.univ fun k : CI => atPos ER (kcell (c, k)) 0 ∅ 0) ∗ toks c ∗ locZ c) := by
  unfold G
  iintro ⟨Hos, Hus, Hst, ⟨Hat, Hr⟩, Htok⟩
  ihave Hv := (sems0_eq (F := F) c) $$ [Hos Hus]
  · isplitl [Hos] <;> iassumption
  icases Hv with ⟨Hv, HL⟩
  imod (show iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HL

def ypE : Dev nD ≃ Dev nD := Function.Involutive.toPerm yp yp_yp
def xnE : Dev nD ≃ Dev nD := Function.Involutive.toPerm xn xn_xn
def peerE (i : Fin 15) : Dev nD ≃ Dev nD := Function.Involutive.toPerm (peer i) (peer_peer i)

/-- The tokens of the duties device `c` pays. -/
def payToks (c : Dev nD) : sProp 𝕄 :=
  iprop(dutyTok ER (barCell (xn c)) 0 true ∗ dutyTok ER (barCell (yp c)) 0 false
    ∗ (bigSep Finset.univ fun i => dutyTok ER (sendCell c i) 0 false) ∗ (bigSep Finset.univ fun i => dutyTok ER (recvCell (peer i c) i) 0 false))

omit [FloatOps F] in
theorem recv_around (Φ : Dev nD → Fin 15 → sProp 𝕄) :
    (bigSep Finset.univ fun c : Dev nD => bigSep Finset.univ fun i : Fin 15 => Φ c i)
      = bigSep Finset.univ fun c : Dev nD => bigSep Finset.univ fun i : Fin 15 => Φ (peer i c) i := by
  let e : Dev nD × Fin 15 ≃ Dev nD × Fin 15 := Function.Involutive.toPerm (fun ci => (peer ci.2 ci.1, ci.2)) fun ci => Prod.ext (peer_peer ci.2 ci.1) rfl
  rw [← bigSep_univ_prod (fun ci : Dev nD × Fin 15 => Φ ci.1 ci.2), bigSep_univ_equiv e, bigSep_univ_prod]
  rfl

theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', bigSep_sep', bigSep_sep',
    bigSep_univ_equiv xnE (fun c : Dev nD => (dutyTok ER (barCell c) 0 true : sProp 𝕄)),
    bigSep_univ_equiv ypE (fun c : Dev nD => (dutyTok ER (barCell c) 0 false : sProp 𝕄)),
    recv_around fun c i => dutyTok ER (recvCell c i) 0 false]
  exact Entails.rfl

theorem linear_of (c : Dev nD) : iprop((bigSep Finset.univ fun k : CI => atPos ER (kcell (c, k)) 0 ∅ 0) ∗ payToks (F := F) c) ⊢ linear (F := F) c := by
  unfold payToks linear sTok
  rw [over_cells, bigSep_sep', bigSep_sep']
  iintro ⟨⟨HB, HS, HV⟩, T1, T2, T3, T4⟩
  isplitl [HB]; · iexact HB
  isplitl [T2]; · iexact T2
  isplitl [T1]; · iexact T1
  isplitl [HS T3 T4]
  · isplitl [T3]; · iexact T3
    isplitl [T4]; · iexact T4
    iexact HS
  iexact HV

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (rd m) κ (kcell (c, k))))
          ∗ (bigSep Finset.univ fun k : CI => reached ER (kcell (c, k)) 0)
          ∗ (bigSep Finset.univ fun k : CI => atPos ER (kcell (c, k)) 0 ∅ 0) ∗ toks (F := F) c ∗ locZ (F := F) c) : sProp 𝕄)
      ⊢ bigSep Finset.univ (G' m) := by
  rw [bigSep_sep', bigSep_sep', bigSep_sep', bigSep_sep', ← bigSep_univ_prod (fun ck : Dev nD × CI => iprop(∃ κ : ℕ, cellInv ER (rd m) κ (kcell ck))),
    ← bigSep_univ_prod (fun ck : Dev nD × CI => (reached ER (kcell ck) 0 : sProp 𝕄))]
  iintro ⟨HI, HR, Hat, Htok, HL⟩
  ihave HK := (BI.bigSep_exists_pi Finset.univ (fun (ck : Dev nD × CI) (κ : ℕ) => (cellInv ER (rd m) κ (kcell ck) : sProp 𝕄))) $$ HI
  icases HK with ⟨%K, HI⟩
  ihave Htk := (toks_around (F := F)) $$ Htok
  ihave Hrec := (show iprop((bigSep Finset.univ fun ck : Dev nD × CI => (cellInv ER (rd m) (K ck) (kcell ck) : sProp 𝕄)) ∗ (bigSep Finset.univ fun ck : Dev nD × CI => reached ER (kcell ck) 0)) ⊢ records m K from
    Entails.of_eq (by unfold records; rw [bigSep_sep'])) $$ [HI HR]
  · isplitl [HI] <;> iassumption
  iapply (with_persistent (R := records m K) (Φ := fun c => iprop(linear (F := F) c ∗ locZ (F := F) c)) fun c _ => by
    unfold G'
    iintro ⟨HR, Hl, HZ⟩
    isplitl [HR Hl]
    · iexists K
      isplitl [HR] <;> iassumption
    iexact HZ)
  isplitl [Hrec]; · iexact Hrec
  rw [bigSep_sep']
  isplitl [Hat Htk]
  · iapply ((Entails.of_eq (bigSep_sep' Finset.univ (fun c : Dev nD => bigSep Finset.univ fun k : CI => (atPos ER (kcell (c, k)) 0 ∅ 0 : sProp 𝕄)) (payToks (F := F))).symm).trans
      (bigSep_mono fun c _ => linear_of (F := F) c))
    isplitl [Hat]; · iexact Hat
    iexact Htk
  iexact HL

/-- Own and unscoped semaphores of every device at once. -/
theorem glob : (bigSep Finset.univ fun c => iprop(own0 (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Mla

end
-- ==== Proof.Launch.lean ====
/-
# The launch

What the devices owe at launch adds up, cell by cell, to the credits their owners wait with; with that, and the body's
obligation, the run of the four devices. It holds for any float values.
-/
module

public import proofs.«01_k».proof.Proof.Deal
public import Idealize.ShloMosaic.Lib.Pipeline.CollectiveSegs

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem owe_bar (d c : Dev nD) : ∀ is, owe d is (barCell c) () = 0
  | [] => rfl
  | i :: is => by
    unfold owe
    rw [Pi.add_apply, Finsupp.add_apply, owe_bar d c is, tallyAt_ne_cell (fun h => by cases (Prod.mk.inj (kcell_injective h)).2), Finsupp.zero_apply,
      Nat.zero_add]

theorem owe_recv (d c : Dev nD) (i : Fin 15) : ∀ is : List (Fin 15), owe d is (recvCell c i) () = is.count i * if d = peer i c then nOf i else 0
  | [] => by rw [List.count_nil, Nat.zero_mul]; rfl
  | j :: is => by
    unfold owe
    rw [Pi.add_apply, Finsupp.add_apply, owe_recv d c i is, tallyAt_apply, List.count_cons, Nat.add_mul]
    congr 1
    by_cases hj : j = i
    · subst hj
      rw [if_pos (beq_self_eq_true j), Nat.one_mul]
      by_cases h : d = peer j c
      · subst h; rw [peer_peer, if_pos ⟨rfl, rfl⟩, if_pos rfl]
      · rw [if_neg (fun h' => h ?_), if_neg h]
        have e : c = peer j d := congrArg (fun ck : Dev nD × CI => ck.1) (kcell_injective h'.1)
        rw [e, peer_peer]
    · rw [if_neg (fun h' => hj ?_), if_neg (fun h' => hj (beq_iff_eq.mp h')), Nat.zero_mul]
      have := (Prod.mk.inj (kcell_injective h'.1)).2
      exact (congrArg Prod.snd (Option.some.inj this)).symm

theorem count_order : ∀ i : Fin 15, order.count i = 1 := by decide

theorem bar_eq_iff {a b : Dev nD} : barCell a = barCell b ↔ a = b :=
  ⟨fun h => congrArg (fun ck : Dev nD × CI => ck.1) (kcell_injective h), fun h => h ▸ rfl⟩

/-- What device `d` owes device `c`'s barrier: a unit if it is a neighbour. -/
theorem owed_bar (d c : Dev nD) : O₀ d (barCell c) () = (if d = xn c then 1 else 0) + (if d = yp c then 1 else 0) := by
  unfold O₀ O₁
  rw [Pi.add_apply, Finsupp.add_apply, Pi.add_apply, Finsupp.add_apply, owe_bar, tallyAt_apply, tallyAt_apply, Nat.zero_add]
  congr 1
  · by_cases h : d = xn c
    · subst h; rw [xn_xn, if_pos ⟨rfl, rfl⟩, if_pos rfl]
    · rw [if_neg (fun ⟨h1, _⟩ => h (by rw [bar_eq_iff.mp h1, xn_xn])), if_neg h]
  · by_cases h : d = yp c
    · subst h; rw [yp_yp, if_pos ⟨rfl, rfl⟩, if_pos rfl]
    · rw [if_neg (fun ⟨h1, _⟩ => h (by rw [bar_eq_iff.mp h1, yp_yp])), if_neg h]

/-- What device `d` owes device `c`'s receive cell `i`: the transfer's credit if the transfer comes from `d`. -/
theorem owed_recv (d c : Dev nD) (i : Fin 15) : O₀ d (recvCell c i) () = if d = peer i c then nOf i else 0 := by
  unfold O₀ O₁
  rw [Pi.add_apply, Finsupp.add_apply, Pi.add_apply, Finsupp.add_apply, owe_recv, count_order, Nat.one_mul,
    tallyAt_ne_cell (fun h => by cases (Prod.mk.inj (kcell_injective h)).2), tallyAt_ne_cell (fun h => by cases (Prod.mk.inj (kcell_injective h)).2),
    Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yp c) fun _ => 1, if_pos (Finset.mem_univ _), if_pos (Finset.mem_univ _)]

theorem launch_recv (c : Dev nD) (i : Fin 15) :
    tallyOn (recvCell c i) (launchCredit (Pipeline.owing O₀) 0 (recvCell c i)) = (tallyAt (recvCell c i) () (nOf i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (peer i c) fun _ => nOf i,
    if_pos (Finset.mem_univ _)]

theorem creds_of (c : Dev nD) : (Pipeline.launchCred O₀ c : sProp 𝕄) ⊢ creds (F := F) c := by
  unfold Pipeline.launchCred creds
  rw [bigSep_univ_at _ (SemLoc.reg barS)]
  refine BIClass.sep_mono (Entails.of_eq (congrArg cred (launch_bar c))) ?_
  have hinj : Function.Injective fun i : Fin 15 => csem (some (true, i)) := fun a b h =>
    congrArg Prod.snd (Option.some.inj (csem_injective h))
  refine (bigSep_subset (t := Finset.univ.map ⟨fun i : Fin 15 => csem (some (true, i)), hinj⟩) ?_).trans ?_
  · intro x hx
    obtain ⟨i, -, rfl⟩ := Finset.mem_map.mp hx
    exact Finset.mem_erase.mpr ⟨fun h => (by cases csem_injective (show csem (some (true, i)) = csem none from h)), Finset.mem_univ _⟩
  · rw [bigSep_map]
    exact Entails.of_eq (bigSep_congr fun i _ => congrArg cred (launch_recv c i))

/-! ## The side conditions of the launch -/

theorem share_eq (c : Dev nD) (w : Fin cfg0.W) : (dats m ρ 0 c).share w = fullShare := by unfold Dat.share; split <;> rfl

omit [FloatOps F] in
/-- A memref of a whole buffer is the buffer. -/
theorem pts_memref (b : Ref sig .tc) (c : Dev nD) (q : PosShare TreeShare) (f : Buf (Elt F) ((c : Thread nD τ).loc b)) :
    (pts (Memref.whole b) c q f : sProp 𝕄) = (((c : Thread nD τ).loc b) ↦{q} f) := pts_whole b c q f

theorem args_eq (c : Dev nD) : args m c = iprop((((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg7) ↦{fullShare} m ((c : Thread nD τ).loc main_arg7))) := by
  unfold args
  rw [pts_memref main_arg4, pts_memref main_arg5, pts_memref main_arg7]

theorem args_of (c : Dev nD) :
    (Pipeline.unscopedRestP Pipeline.Prefetch.none cfg0.spec c (fun b => m ((c : Thread nD τ).loc b)) : sProp 𝕄) ⊢ args m c := by
  rw [args_eq]
  exact (show _ ⊢ Pipeline.unscopedRest (Ix := Unit) (Name := ℕ) (U := UU) (Lvl := ℕ) spec0 c (fun b => m ((c : Thread nD τ).loc b)) from
    Entails.of_eq (Pipeline.unscopedRestP_none ..)).trans (Entails.of_eq (unscopedRest0_eq c _))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨Hu, Hlev, Hcr, -, HG, HZ⟩
  ihave Hc := (creds_of (F := F) c) $$ Hcr
  ihave HA := (args_of m c) $$ Hu
  imodintro
  isplitl
  · isplitl [HG]; · iexact HG
    isplitl [Hc]; · iexact Hc
    isplitl [HZ]; · iexact HZ
    isplitl [Hlev]; · iexact Hlev
    iexact HA
  · iempintro

omit [FloatOps F] in
theorem someF_whole (b : Ref sig .tc) (c : Dev nD) :
    (someF (Memref.whole b) c : sProp 𝕄) = iprop(∃ f : Buf (Elt F) ((c : Thread nD τ).loc b), ((c : Thread nD τ).loc b) ↦{fullShare} f) := by
  unfold someF
  exact congrArg _ (funext fun f => pts_whole b c fullShare f)

theorem scratch_eq (c : Dev nD) : (Pipeline.scopedRest (Ix := Unit) (Name := ℕ) (U := UU) (Lvl := ℕ) (Val := Elt F) spec0 c : sProp 𝕄) = scratch (F := F) c := by
  rw [scopedRest0_eq]
  unfold scratch
  simp only [someF_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scratch c from scratch_eq c]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ args m c) ∗ own0 (F := F) c ∗ Pipeline.scopedRest cfg0.spec c) := by
  rw [show (dats m ρ 0 c).Φ (Fin.last cfg0.N) = Φ₁ m c from rfl, show (Pipeline.scopedRest cfg0.spec c : sProp 𝕄) = scratch c from scratch_eq c,
    ownSems0_eq, unscopedSems0_eq]
  unfold Φ₁
  iintro ⟨HA, Hr, HZ, HX, HB⟩
  isplitl [HA HB]
  · isplitl [HB]; · iexact HB
    iexact HA
  isplitl [HX HZ]
  · isplitl [HX]; · iexact HX
    iexact HZ
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## What is read at the end -/

/-- The weights left in HBM hold what they held. -/
def ArgsKept (c : Dev nD) (s : MemSt nD τ sig (Elt F)) : Prop :=
  s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg7) = m ((c : Thread nD τ).loc main_arg7)

theorem args_read (c : Dev nD) (s' : Phys nD τ sig (Elt F)) : iprop(args m c ∗ SI s') ⊢ (iprop(⌜ArgsKept m c s'.mem⌝ ∗ SI s') : sProp 𝕄) := by
  rw [args_eq]
  iintro ⟨⟨H4, H5, H7⟩, HSI⟩
  icombine HSI H4 gives %h4
  icombine HSI H5 gives %h5
  icombine HSI H7 gives %h7
  isplitr
  · ipureintro
    exact ⟨Buf.eq_of_forall_mem_univ h4, Buf.eq_of_forall_mem_univ h5, Buf.eq_of_forall_mem_univ h7⟩
  iexact HSI

/-! ## The run -/

def finalA (c : Dev nD) (w : Fin cfg0.W) : Buf (Elt F) ((cfg0.win w).arr.view.loc (c : Thread nD τ)) := (dats m ρ 0 c).arrAt w cfg0.N

/-- Every device's arrays at the computed contents, the weights left in HBM unchanged. -/
def Ends (s : MemSt nD τ sig (Elt F)) : Prop :=
  ∀ c : Dev nD, (∀ w : Fin cfg0.W, s.mem ((cfg0.win w).arr.view.loc (c : Thread nD τ)) = finalA m ρ c w) ∧ ArgsKept m c s

set_option maxRecDepth 8000 in
/-- From any memory with zero counters, every weakly fair execution of the four devices terminates, and every final state has
    the arrays at the computed contents and every semaphore counter at zero. -/
theorem run_main : θ_run defs (onTc (τ := τ) (main (F := F))) (s₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ ArgsKept m c s)
    (hY := fun c s' => by
      iintro ⟨⟨Hu, HA⟩, -, HSI⟩
      ihave T := (args_read m c s') $$ [HA HSI]
      · isplitl [HA] <;> iassumption
      icases T with ⟨%hA, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hA⟩
      iexact HSI)
    (hQ := fun _ h hs => ⟨fun c => ⟨(h c).1, (h c).2.2.2⟩, sem_eq_zero hs fun c => (h c).2.2.1⟩)

end Cert.Mla

end
-- ==== Proof.Final.lean ====
/-
# What the arrays hold at the end

The pipeline has one grid point and every window's block is its whole array: an argument's array ends as it
began, and the result's array ends at what the body left in its staging buffer.
-/
module

public import proofs.«01_k».proof.Proof.Launch
public import proofs.«01_k».proof.Proof.Gen.KernelIdeal.Points
public import Idealize.ShloMosaic.Lib.Pipeline.Value

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window `w` of the five arguments brought in by the pipeline holds at the end what it held. -/
theorem final_x (c : Dev nD) : finalA m ρ c (0 : Fin 6) = m ((c : Thread nD τ).loc main_arg0) := (dats (F := F) m ρ 0 c).arrAt_in (0 : Fin 6) rfl _
theorem final_dkv (c : Dev nD) : finalA m ρ c (1 : Fin 6) = m ((c : Thread nD τ).loc main_arg1) := (dats (F := F) m ρ 0 c).arrAt_in (1 : Fin 6) rfl _
theorem final_uk (c : Dev nD) : finalA m ρ c (2 : Fin 6) = m ((c : Thread nD τ).loc main_arg2) := (dats (F := F) m ρ 0 c).arrAt_in (2 : Fin 6) rfl _
theorem final_uv (c : Dev nD) : finalA m ρ c (3 : Fin 6) = m ((c : Thread nD τ).loc main_arg3) := (dats (F := F) m ρ 0 c).arrAt_in (3 : Fin 6) rfl _
theorem final_kr (c : Dev nD) : finalA m ρ c (4 : Fin 6) = m ((c : Thread nD τ).loc main_arg6) := (dats (F := F) m ρ 0 c).arrAt_in (4 : Fin 6) rfl _

/-- The one block of the result's window covers the result. -/
theorem out_cover (i : S1024x2048.Idx) : ∃ t : Fin cfg0.N, (cfg0.win 5).flush t = true ∧ i ∈ ((cfg0.win 5).blk t).view.set := by
  refine ⟨t0_0, flush0_5 _, ?_⟩
  show i ∈ ((View.whole main_v1).slice (win0_5.rect t0_0)).set
  rw [View.set_slice_whole, Rect.mem_set_unit]
  have h0 : (i 0 : Nat) < 1024 := (i 0).isLt
  have h1 : (i 1 : Nat) < 2048 := (i 1).isLt
  intro a
  match a with
  | ⟨0, _⟩ => show 0 * 1024 ≤ (i 0 : Nat) ∧ (i 0 : Nat) < 0 * 1024 + 1024; omega
  | ⟨1, _⟩ => show 0 * 2048 ≤ (i 1 : Nat) ∧ (i 1 : Nat) < 0 * 2048 + 2048; omega

/-- Reading the result's array through that block is reading the array. -/
theorem out_read (G : S1024x2048.Idx → F .f32) :
    (((cfg0.win 5).blk t0_0).view.read (Elt F) G : S1024x2048.Idx → F .f32) = G := by
  funext i
  refine congrArg G (funext fun a => Fin.ext ?_)
  match a with
  | ⟨0, _⟩ => show 0 * 1024 + 1 * (i 0 : Nat) = (i 0 : Nat); omega
  | ⟨1, _⟩ => show 0 * 2048 + 1 * (i 1 : Nat) = (i 1 : Nat); omega

theorem final_out (c : Dev nD) : finalA m ρ c (5 : Fin 6) = res m c :=
  (dats (F := F) m ρ 0 c).arrAt_eq_of_cover (5 : Fin 6) (res m c) (fun t _ => by
    obtain rfl := fin_N0 t
    exact (out_read (res m c)).symm) out_cover

end Cert.Mla

end
-- ==== Proof.Frames.lean ====
/-
# The frames

Every execution ends with the eight arguments unchanged and every semaphore counter at zero. The run is proved
once over any float values; the two kernels are that one program read at two of them.
-/
module

public import proofs.«01_k».proof.Defs
public import proofs.«01_k».proof.Proof.Final
public import proofs.«01_k».proof.Proof.Gen.Kernel
public import proofs.«01_k».proof.Proof.Gen.ReferenceIdeal.Run

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Device `c`'s arguments hold what they held. -/
def Kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

theorem kept {s : MemSt nD τ sig (Elt F)} (h : Ends m ρ s) (c : Dev nD) : Kept m c s :=
  ⟨((h c).1 0).trans (final_x m ρ c), ((h c).1 1).trans (final_dkv m ρ c), ((h c).1 2).trans (final_uk m ρ c),
    ((h c).1 3).trans (final_uv m ρ c), (h c).2.1, (h c).2.2.1, ((h c).1 4).trans (final_kr m ρ c), (h c).2.2.2⟩

/-- Every execution ends with each device's result at `res`, its arguments unchanged and the counters at zero. -/
theorem run_res : θ_run defs (onTc (τ := τ) (main (F := F))) ⟨m, fun _ => 0, ρ⟩ fun r =>
    (∀ c : Dev nD, r.2.mem ((c : Thread nD τ).loc main_v1) = res m c ∧ Kept m c r.2) ∧ r.2.sem = fun _ => 0 :=
  (θ_run defs _ _).mono (fun _ h => ⟨fun c => ⟨((h.1 c).1 5).trans (final_out m ρ c), kept m ρ h.1 c⟩, h.2⟩) (run_main m ρ)

theorem run_kept : θ_run defs (onTc (τ := τ) (main (F := F))) ⟨m, fun _ => 0, ρ⟩ fun r =>
    (∀ c : Dev nD, Kept m c r.2) ∧ r.2.sem = fun _ => 0 :=
  (θ_run defs _ _).mono (fun _ h => ⟨fun c => (h.1 c).2, h.2⟩) (run_res m ρ)

/-- The two programs' body tables are one. -/
theorem defs₀_eq : Cert.Kernel.defs₀ (F := F) = Cert.KernelIdeal.defs₀ (F := F) := by
  unfold Cert.Kernel.defs₀ Cert.KernelIdeal.defs₀
  congr 1
  funext i p
  match i, p with
  | 0, (t, s) => rfl
theorem defs_eq : Cert.Kernel.defs (F := F) = Cert.KernelIdeal.defs (F := F) := by
  unfold Cert.Kernel.defs Cert.KernelIdeal.defs
  exact congrArg (Pipeline.defs _) defs₀_eq

theorem frame_ideal : Cert.quiescent_KernelIdeal := fun m ρ _ => run_kept (F := Ideal) m ρ

theorem frame_kernel : Cert.quiescent_Kernel := fun m ρ _ => by
  have h := run_kept (F := Bits) m ρ
  rw [← defs_eq] at h
  exact h

/-- The reference is a sequence of host operations, none of which writes an argument; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mla

end
-- ==== Proof.PayReads.lean ====
/-
# The kernel's expressions read at an index, over the extended reals

Each payload is read at row `s` and column `n`: a product of matrices is the sum over the contracted axis, a change of
format changes nothing.
-/
module

public import proofs.«01_k».proof.Proof.Contents
public import Idealize.ShloMosaic.Lib.Pointwise

@[expose] public section

set_option maxRecDepth 16384

noncomputable section

namespace Cert.Mla

open Cert.KernelIdeal Cert.KernelIdeal.Gen
open Idealize.ShloMosaic

theorem pay1_at (x : Vec Ideal S1024x2048 .f32) (s : Fin 1024) (k : Fin 2048) :
    k0_pay1 x (ix2 s k) = x (ix2 s k) := by
  pointwise [k0_pay1]

theorem pay2_at (x : Vec Ideal S1024x2048 .f32) (d : Vec Ideal S2048x128 .f32) (s : Fin 1024) (j : Fin 128) :
    k0_pay2 x d (ix2 s j) = ∑ k : Fin 2048, x (ix2 s k) * d (ix2 k j) := by
  pointwise [k0_pay2, k0_pay1]

theorem pay3_at (x : Vec Ideal S1024x2048 .f32) (d : Vec Ideal S2048x128 .f32) (s : Fin 1024) (j : Fin 128) :
    k0_pay3 x d (ix2 s j) = k0_pay2 x d (ix2 s j) := by
  pointwise [k0_pay3]

theorem pay4_at (x : FVec Ideal S1024x2048 .bf16) (w : Vec Ideal S2048x32 .f32) (s : Fin 1024) (r : Fin 32) :
    k0_pay4 x w (ix2 s r) = ∑ k : Fin 2048, x (ix2 s k) * w (ix2 k r) := by
  pointwise [k0_pay4]

/-- The scale the scores are multiplied by. -/
def scale : EReal := Ideal.ofBits .f32 0x3DA1E89B#32

theorem pay5_at (x : FVec Ideal S1024x2048 .bf16) (w : Vec Ideal S2048x512 .f32) (s : Fin 1024) (n : Fin 512) :
    k0_pay5 x w (ix2 s n) = (∑ k : Fin 2048, x (ix2 s k) * w (ix2 k n)) * scale := by
  pointwise [k0_pay5, scale]

theorem pay6_at (x : FVec Ideal S1024x2048 .bf16) (w : Vec Ideal S2048x128 .f32) (s : Fin 1024) (n : Fin 128) :
    k0_pay6 x w (ix2 s n) = (∑ k : Fin 2048, x (ix2 s k) * w (ix2 k n)) * scale := by
  pointwise [k0_pay6, scale]

theorem pay7_at (a b : FVec Ideal S1024x128 .bf16) (w v : Vec Ideal S128x512 .f32) (s : Fin 1024) (n : Fin 512) :
    k0_pay7 a b w v (ix2 s n)
      = (∑ j : Fin 128, a (ix2 s j) * w (ix2 j n)) + ∑ j : Fin 128, b (ix2 s j) * v (ix2 j n) := by
  pointwise [k0_pay7]

theorem pay8_at (w : Vec Ideal S128x512 .f32) (j : Fin 128) (n : Fin 512) : k0_pay8 w (ix2 j n) = w (ix2 j n) := by
  pointwise [k0_pay8]

theorem pay9_at (a b : FVec Ideal S1024x128 .bf16) (w : FVec Ideal S128x512 .bf16) (v : Vec Ideal S128x512 .f32)
    (s : Fin 1024) (n : Fin 512) :
    k0_pay9 a b w v (ix2 s n)
      = (∑ j : Fin 128, a (ix2 s j) * w (ix2 j n)) + ∑ j : Fin 128, b (ix2 s j) * v (ix2 j n) := by
  pointwise [k0_pay9]

/-- One head's attention: the scores are those of 128 plain and 32 rotary coordinates, the weights their exponentials,
    the output the weighted sum of the values over the sum of the weights. -/
def attend (q k : Fin 1024 → Fin 128 → EReal) (qr kr : Fin 1024 → Fin 32 → EReal) (v : Fin 1024 → Fin 128 → EReal)
    (s : Fin 1024) (d : Fin 128) : EReal :=
  Ideal.div (∑ t, Ideal.exp (∑ e, q s e * k t e + ∑ r, qr s r * kr t r) * v t d)
    (∑ t, Ideal.exp (∑ e, q s e * k t e + ∑ r, qr s r * kr t r))

theorem pay10_at (a : FVec Ideal S1024x128 .bf16) (kr : FVec Ideal S1024x32 .bf16) (q : FVec Ideal S1024x512 .bf16)
    (qr b : FVec Ideal S1024x128 .bf16) (k : FVec Ideal S1024x512 .bf16) (w : FVec Ideal S128x512 .bf16)
    (u : Vec Ideal S128x512 .f32)
    (s : Fin 1024) (d : Fin 128) :
    k0_pay10 a kr q qr b k w u (ix2 s d)
      = attend (fun s e => q (ix2 s ⟨0 + e.val, by omega⟩))
          (fun t e => k (ix2 t ⟨0 + e.val, by omega⟩))
          (fun s r => qr (ix2 s ⟨0 + r.val, by omega⟩))
          (fun t r => kr (ix2 t r))
          (fun t d => (k0_pay9 a b w u) (ix2 t ⟨0 + d.val, by omega⟩)) s d := by
  unfold k0_pay10
  generalize k0_pay9 a b w u = v
  pointwise [k0_pay10, attend]

theorem pay11_at (kr : FVec Ideal S1024x32 .bf16) (q : FVec Ideal S1024x512 .bf16) (qr : FVec Ideal S1024x128 .bf16)
    (k v : FVec Ideal S1024x512 .bf16)
    (s : Fin 1024) (d : Fin 128) :
    k0_pay11 kr q qr k v (ix2 s d)
      = attend (fun s e => q (ix2 s ⟨128 + e.val, by omega⟩))
          (fun t e => k (ix2 t ⟨128 + e.val, by omega⟩))
          (fun s r => qr (ix2 s ⟨32 + r.val, by omega⟩))
          (fun t r => kr (ix2 t r))
          (fun t d => v (ix2 t ⟨128 + d.val, by omega⟩)) s d := by
  pointwise [k0_pay11, attend]

theorem pay12_at (kr : FVec Ideal S1024x32 .bf16) (q : FVec Ideal S1024x512 .bf16) (qr : FVec Ideal S1024x128 .bf16)
    (k v : FVec Ideal S1024x512 .bf16)
    (s : Fin 1024) (d : Fin 128) :
    k0_pay12 kr q qr k v (ix2 s d)
      = attend (fun s e => q (ix2 s ⟨256 + e.val, by omega⟩))
          (fun t e => k (ix2 t ⟨256 + e.val, by omega⟩))
          (fun s r => qr (ix2 s ⟨64 + r.val, by omega⟩))
          (fun t r => kr (ix2 t r))
          (fun t d => v (ix2 t ⟨256 + d.val, by omega⟩)) s d := by
  pointwise [k0_pay12, attend]

theorem pay13_at (kr : FVec Ideal S1024x32 .bf16) (q : FVec Ideal S1024x512 .bf16) (qr : FVec Ideal S1024x128 .bf16)
    (k v : FVec Ideal S1024x512 .bf16)
    (s : Fin 1024) (d : Fin 128) :
    k0_pay13 kr q qr k v (ix2 s d)
      = attend (fun s e => q (ix2 s ⟨384 + e.val, by omega⟩))
          (fun t e => k (ix2 t ⟨384 + e.val, by omega⟩))
          (fun s r => qr (ix2 s ⟨96 + r.val, by omega⟩))
          (fun t r => kr (ix2 t r))
          (fun t d => v (ix2 t ⟨384 + d.val, by omega⟩)) s d := by
  pointwise [k0_pay13, attend]

theorem pay14_at (o : FVec Ideal S1024x512 .bf16) (w : Vec Ideal S1x512x2048 .f32) (s : Fin 1024) (n : Fin 2048) :
    k0_pay14 o w (ix2 s n) = ∑ j : Fin 512, o (ix2 s j) * w (ix3 0 j n) := by
  pointwise [k0_pay14]

theorem pay15_at (p : FVec Ideal S1024x2048 .f32) (o : FVec Ideal S1024x512 .bf16) (w : Vec Ideal S1x512x2048 .f32)
    (s : Fin 1024) (n : Fin 2048) :
    k0_pay15 p o w (ix2 s n) = p (ix2 s n) + ∑ j : Fin 512, o (ix2 s j) * w (ix3 0 j n) := by
  pointwise [k0_pay15]

theorem pay16_at (p : FVec Ideal S1024x2048 .f32) (o : FVec Ideal S1024x512 .bf16) (w : Vec Ideal S1x512x2048 .f32)
    (s : Fin 1024) (n : Fin 2048) :
    k0_pay16 p o w (ix2 s n) = p (ix2 s n) + ∑ j : Fin 512, o (ix2 s j) * w (ix3 0 j n) := by
  pointwise [k0_pay16]

theorem pay17_at (p : FVec Ideal S1024x2048 .f32) (o : FVec Ideal S1024x512 .bf16) (w : Vec Ideal S1x512x2048 .f32)
    (s : Fin 1024) (n : Fin 2048) :
    k0_pay17 p o w (ix2 s n) = p (ix2 s n) + ∑ j : Fin 512, o (ix2 s j) * w (ix3 0 j n) := by
  pointwise [k0_pay17]

end Cert.Mla

end
-- ==== Proof.Softmax.lean ====
/-
# Weighted averages over the extended reals

A softmax may be shifted: the weights `exp (aₜ − M) / Σ exp (aₜ − M)` do not depend on the real number `M`, so long as
every `aₜ` is real. The averaged values `vₜ` may be infinite: the weights are real and not negative, and multiplication
by such a number distributes over sums.
-/
module

public import Idealize.ShloMosaic.PureOps.Ideal.Laws

@[expose] public section

noncomputable section

namespace Cert.Mla

open Idealize.ShloMosaic

/-- A number that is not infinite. -/
def IsReal (a : EReal) : Prop := ∃ r : ℝ, a = (r : EReal)

theorem isReal_coe (r : ℝ) : IsReal (r : EReal) := ⟨r, rfl⟩

theorem IsReal.add {a b : EReal} : IsReal a → IsReal b → IsReal (a + b) := by
  rintro ⟨r, rfl⟩ ⟨s, rfl⟩; exact ⟨r + s, (EReal.coe_add r s).symm⟩

theorem IsReal.mul {a b : EReal} : IsReal a → IsReal b → IsReal (a * b) := by
  rintro ⟨r, rfl⟩ ⟨s, rfl⟩; exact ⟨r * s, (EReal.coe_mul r s).symm⟩

theorem IsReal.sup {a b : EReal} (ha : IsReal a) (hb : IsReal b) : IsReal (max a b) := by
  rcases max_choice a b with h | h <;> rw [h] <;> assumption

theorem isReal_of_abs_lt {a : EReal} (h : max a (-a) < ⊤) : IsReal a := by
  induction a with
  | bot => simp at h
  | top => simp at h
  | coe r => exact ⟨r, rfl⟩

/-- The sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A sum of products of real numbers is real. -/
theorem IsReal.dot {ι : Type*} (s : Finset ι) {f g : ι → EReal} (hf : ∀ i, IsReal (f i)) (hg : ∀ i, IsReal (g i)) :
    IsReal (∑ i ∈ s, f i * g i) := .sum s fun i => (hf i).mul (hg i)

/-- The greatest of finitely many real numbers, at least one, is real. -/
theorem isReal_fold_max {n : ℕ} {f : Fin (n + 1) → EReal} (h : ∀ i, IsReal (f i)) :
    IsReal (Finset.univ.fold max ⊥ f) := by
  have key : ∀ s : Finset (Fin (n + 1)), s.fold max ⊥ f = ⊥ ∧ s = ∅ ∨ IsReal (s.fold max ⊥ f) := by
    intro s
    induction s using Finset.induction_on with
    | empty => exact .inl ⟨by simp, rfl⟩
    | insert a s ha ih =>
      right
      rw [Finset.fold_insert ha]
      rcases ih with ⟨e, -⟩ | e
      · rw [e, max_eq_left bot_le]; exact h a
      · exact (h a).sup e
  rcases key Finset.univ with ⟨-, e⟩ | e
  · exact absurd e (Finset.univ_nonempty.ne_empty)
  · exact e

/-- A scale on one factor of a product of sums comes out, of two such sums added. -/
theorem scale_out {ι κ : Type*} (s : Finset ι) (t : Finset κ) {f g : ι → EReal} {p q : κ → EReal} {c : EReal}
    (hf : ∀ i, IsReal (f i)) (hg : ∀ i, IsReal (g i)) (hp : ∀ i, IsReal (p i)) (hq : ∀ i, IsReal (q i)) (hc : IsReal c) :
    ∑ i ∈ s, f i * c * g i + ∑ i ∈ t, p i * c * q i = (∑ i ∈ s, f i * g i + ∑ i ∈ t, p i * q i) * c := by
  choose f' hf using hf
  choose g' hg using hg
  choose p' hp using hp
  choose q' hq using hq
  obtain ⟨c', rfl⟩ := hc
  simp only [hf, hg, hp, hq, ← EReal.coe_mul, ← coe_sum, ← EReal.coe_add]
  congr 1
  rw [add_mul, Finset.sum_mul, Finset.sum_mul]
  congr 1 <;> exact Finset.sum_congr rfl fun i _ => by ring

/-- A real number that is not negative distributes over a sum. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- **The softmax average.** On the left the weights are divided by their sum after averaging, and not shifted; on the
    right they are shifted by `M` and divided before. -/
theorem average_eq {n : ℕ} (a v : Fin (n + 1) → EReal) {M : EReal} (ha : ∀ t, IsReal (a t)) (hM : IsReal M) :
    Ideal.div (∑ t, Ideal.exp (a t) * v t) (∑ t, Ideal.exp (a t))
      = ∑ t, v t * Ideal.div (Ideal.exp (a t - M)) (∑ u, Ideal.exp (a u - M)) := by
  choose r hr using ha
  obtain ⟨M, rfl⟩ := hM
  obtain rfl : a = fun t => (r t : EReal) := funext hr
  have hS : 0 < ∑ t, Real.exp (r t) := Finset.sum_pos (fun t _ => Real.exp_pos _) Finset.univ_nonempty
  have hS' : 0 < ∑ t, Real.exp (r t - M) := Finset.sum_pos (fun t _ => Real.exp_pos _) Finset.univ_nonempty
  simp only [Ideal.exp_coe, ← EReal.coe_sub, ← coe_sum]
  rw [Ideal.div_coe hS.ne', sum_mul_coe _ _ (by positivity)]
  refine Finset.sum_congr rfl fun t _ => ?_
  rw [Ideal.div_coe hS'.ne', mul_comm ((Real.exp (r t) : ℝ) : EReal) (v t), mul_assoc, ← EReal.coe_mul, ← EReal.coe_mul]
  congr 2
  have e : ∑ u, Real.exp (r u - M) = (∑ u, Real.exp (r u)) * Real.exp (-M) := by
    rw [Finset.sum_mul]; exact Finset.sum_congr rfl fun u _ => by rw [← Real.exp_add, sub_eq_add_neg]
  rw [e, sub_eq_add_neg, Real.exp_add]
  have := Real.exp_pos (-M)
  field_simp

end Cert.Mla

end
-- ==== Proof.Whole.lean ====
/-
# The attention of the whole arrays

The eight arguments as whole arrays, and the layer's intermediate values as functions of rows and columns: the compressed
activations, the keys, values and queries of all sixteen heads, the scores, and each head's output.
-/
module

public import proofs.«01_k».proof.Proof.PayReads
public import proofs.«01_k».proof.Proof.Softmax

@[expose] public section

noncomputable section

namespace Cert.Mla

open Idealize.ShloMosaic

/-- An array of `a` rows and `b` columns. -/
abbrev Mat (a b : ℕ) : Type := (⟨2, ![a, b]⟩ : Shape).Idx → EReal

/-- The layer's input and weights. -/
structure Arrays where
  x : Mat 1024 2048
  dkv : Mat 2048 256
  uk : Mat 256 2048
  uv : Mat 256 2048
  wq : Mat 2048 2048
  wqr : Mat 2048 512
  wkr : Mat 2048 32
  wo : Mat 2048 2048

namespace Arrays

variable (A : Arrays)

/-- The arrays a score is computed from have no infinite entry. -/
structure Finite : Prop where
  x : ∀ s k, IsReal (A.x (ix2 s k))
  dkv : ∀ s k, IsReal (A.dkv (ix2 s k))
  uk : ∀ s k, IsReal (A.uk (ix2 s k))
  wq : ∀ s k, IsReal (A.wq (ix2 s k))
  wqr : ∀ s k, IsReal (A.wqr (ix2 s k))
  wkr : ∀ s k, IsReal (A.wkr (ix2 s k))

/-- The compressed activations. -/
def comp (s : Fin 1024) (j : Fin 256) : EReal := ∑ k : Fin 2048, A.x (ix2 s k) * A.dkv (ix2 k j)
def key (t : Fin 1024) (n : Fin 2048) : EReal := ∑ j : Fin 256, A.comp t j * A.uk (ix2 j n)
def val (t : Fin 1024) (n : Fin 2048) : EReal := ∑ j : Fin 256, A.comp t j * A.uv (ix2 j n)
def query (s : Fin 1024) (n : Fin 2048) : EReal := ∑ k : Fin 2048, A.x (ix2 s k) * A.wq (ix2 k n)
/-- The rotary part of the queries and of the keys, which all heads share. -/
def queryR (s : Fin 1024) (n : Fin 512) : EReal := ∑ k : Fin 2048, A.x (ix2 s k) * A.wqr (ix2 k n)
def keyR (t : Fin 1024) (r : Fin 32) : EReal := ∑ k : Fin 2048, A.x (ix2 t k) * A.wkr (ix2 k r)

/-- Column `d` of head `h`, among the columns of sixteen heads of 128, or of 32. -/
def col (h : Fin 16) (d : Fin 128) : Fin 2048 := ⟨128 * h.val + d.val, by omega⟩
def colR (h : Fin 16) (r : Fin 32) : Fin 512 := ⟨32 * h.val + r.val, by omega⟩

/-- The scaled score of row `s` against row `t` in head `h`. -/
def score (h : Fin 16) (s t : Fin 1024) : EReal :=
  (∑ e, A.query s (col h e) * A.key t (col h e) + ∑ r, A.queryR s (colR h r) * A.keyR t r) * scale

/-- The greatest score of a row. -/
def top (h : Fin 16) (s : Fin 1024) : EReal := Finset.univ.fold max ⊥ fun t => A.score h s t

/-- Head `h`'s output as the reference computes it: scores shifted by the row's greatest, weights divided by their sum. -/
def out (h : Fin 16) (s : Fin 1024) (d : Fin 128) : EReal :=
  ∑ t, A.val t (col h d)
    * Ideal.div (Ideal.exp (A.score h s t - A.top h s)) (∑ u, Ideal.exp (A.score h s u - A.top h s))

/-- The heads' outputs side by side. -/
def outs (s : Fin 1024) (n : Fin 2048) : EReal :=
  A.out ⟨n.val / 128, by omega⟩ s ⟨n.val % 128, Nat.mod_lt _ (by decide)⟩

/-- The layer's output. -/
def result (s : Fin 1024) (n : Fin 2048) : EReal := ∑ j : Fin 2048, A.outs s j * A.wo (ix2 j n)

theorem outs_col (h : Fin 16) (s : Fin 1024) (d : Fin 128) : A.outs s (col h d) = A.out h s d := by
  have e1 : (⟨(col h d).val / 128, by omega⟩ : Fin 16) = h := Fin.ext (by show (128 * h.val + d.val) / 128 = h.val; omega)
  have e2 : (⟨(col h d).val % 128, Nat.mod_lt _ (by decide)⟩ : Fin 128) = d :=
    Fin.ext (by show (128 * h.val + d.val) % 128 = d.val; omega)
  unfold outs
  rw [e1, e2]

variable {A}

theorem isReal_scale : IsReal scale := by
  unfold scale Ideal.ofBits Ideal.ieee
  simp only
  split_ifs
  all_goals first | exact isReal_coe _ | simp_all

theorem Finite.comp (H : A.Finite) (s j) : IsReal (A.comp s j) := .dot _ (H.x s) fun k => H.dkv k j
theorem Finite.key (H : A.Finite) (s j) : IsReal (A.key s j) := .dot _ (H.comp s) fun k => H.uk k j
theorem Finite.query (H : A.Finite) (s j) : IsReal (A.query s j) := .dot _ (H.x s) fun k => H.wq k j
theorem Finite.queryR (H : A.Finite) (s j) : IsReal (A.queryR s j) := .dot _ (H.x s) fun k => H.wqr k j
theorem Finite.keyR (H : A.Finite) (s j) : IsReal (A.keyR s j) := .dot _ (H.x s) fun k => H.wkr k j

theorem Finite.score (H : A.Finite) (h s t) : IsReal (A.score h s t) :=
  ((IsReal.dot _ (fun e => H.query s _) fun e => H.key t _).add
    (IsReal.dot _ (fun e => H.queryR s _) fun e => H.keyR t _)).mul isReal_scale

theorem Finite.top (H : A.Finite) (h s) : IsReal (A.top h s) := isReal_fold_max (H.score h s)

/-- **One head.** The kernel scales the queries and not the scores, and leaves the scores unshifted. -/
theorem Finite.attend_eq (H : A.Finite) (h : Fin 16) (s : Fin 1024) (d : Fin 128) :
    attend (fun s e => A.query s (col h e) * scale) (fun t e => A.key t (col h e))
        (fun s r => A.queryR s (colR h r) * scale) A.keyR (fun t d => A.val t (col h d)) s d
      = A.out h s d := by
  unfold attend out
  rw [← average_eq (fun t => A.score h s t) (fun t => A.val t (col h d)) (H.score h s) (H.top h s)]
  have e : ∀ t, ∑ e, A.query s (col h e) * scale * A.key t (col h e) + ∑ r, A.queryR s (colR h r) * scale * A.keyR t r
      = A.score h s t := fun t =>
    scale_out _ _ (fun e => H.query s _) (fun e => H.key t _) (fun e => H.queryR s _) (fun e => H.keyR t _) isReal_scale
  simp only [e]

end Arrays

end Cert.Mla

end
-- ==== Proof.Blocks.lean ====
/-
# What a device holds, as parts of the whole arrays

Device `c` of the mesh has coordinates `x = c / 2` and `y = c % 2`. It holds the half `y` of the compressed axis of
`Wdkv`, `Wuk` and `Wuv`, and computes the four heads of group `2 y + x`: columns `[512 g, 512 g + 512)` of `g = 2 y + x`.
-/
module

public import proofs.«01_k».proof.Proof.Whole

@[expose] public section

set_option maxRecDepth 16384

noncomputable section

namespace Cert.Mla

open Cert.KernelIdeal Cert.KernelIdeal.Gen
open Idealize.ShloMosaic
open Idealize.ShloMosaic.TcCoe

set_option backward.proofsInPublic true in
/-- The group of four heads device `c` computes. -/
def grp (c : Dev nD) : Fin 4 := ⟨2 * (c.val % 2) + c.val / 2, by revert c; decide⟩

theorem grp_val (c : Dev nD) : (grp c).val = 2 * (c.val % 2) + c.val / 2 := rfl
theorem yp_mod (c : Dev nD) : (yp c).val % 2 = 1 - c.val % 2 := by revert c; decide
theorem yp_div (c : Dev nD) : (yp c).val / 2 = c.val / 2 := by revert c; decide
theorem xn_mod (c : Dev nD) : (xn c).val % 2 = c.val % 2 := by revert c; decide
theorem xn_div (c : Dev nD) : (xn c).val / 2 = 1 - c.val / 2 := by revert c; decide
theorem div_lt (c : Dev nD) : c.val / 2 < 2 := by revert c; decide

/-- Entry `j` of half `y` of the compressed axis. -/
def half (y : ℕ) (j : Fin 128) : Fin 256 := ⟨128 * (y % 2) + j.val, by omega⟩
/-- Column `n` of a group's 512 columns; of its 128 rotary columns. -/
def grpCol (g : Fin 4) (n : Fin 512) : Fin 2048 := ⟨512 * g.val + n.val, by omega⟩
def grpColR (g : Fin 4) (n : Fin 128) : Fin 512 := ⟨128 * g.val + n.val, by omega⟩

variable (m : (ℓ : Loc nD τ sig) → Buf (Elt Ideal) ℓ) (A : Arrays)

/-- The devices' argument buffers hold their parts of the arrays `A`. -/
structure Laid : Prop where
  x : ∀ c : Dev nD, (m ((c : Thread nD τ).loc main_arg0) : Mat 1024 2048) = A.x
  dkv : ∀ (c : Dev nD) (k : Fin 2048) (j : Fin 128),
    (m ((c : Thread nD τ).loc main_arg1) : Mat 2048 128) (ix2 k j) = A.dkv (ix2 k (half c.val j))
  uk : ∀ (c : Dev nD) (j : Fin 128) (n : Fin 2048),
    (m ((c : Thread nD τ).loc main_arg2) : Mat 128 2048) (ix2 j n) = A.uk (ix2 (half c.val j) n)
  uv : ∀ (c : Dev nD) (j : Fin 128) (n : Fin 2048),
    (m ((c : Thread nD τ).loc main_arg3) : Mat 128 2048) (ix2 j n) = A.uv (ix2 (half c.val j) n)
  wq : ∀ c : Dev nD, (m ((c : Thread nD τ).loc main_arg4) : Mat 2048 2048) = A.wq
  wqr : ∀ c : Dev nD, (m ((c : Thread nD τ).loc main_arg5) : Mat 2048 512) = A.wqr
  wkr : ∀ c : Dev nD, (m ((c : Thread nD τ).loc main_arg6) : Mat 2048 32) = A.wkr
  wo : ∀ c : Dev nD, (m ((c : Thread nD τ).loc main_arg7) : Mat 2048 2048) = A.wo

variable {m A}

/-! ## The staged arguments and the slices of the weights -/

theorem x0_at (L : Laid m A) (c : Dev nD) (s : Fin 1024) (k : Fin 2048) : x0 m c (ix2 s k) = A.x (ix2 s k) := by
  rw [← L.x c]
  refine congrArg (m ((c : Thread nD τ).loc main_arg0)) (funext fun a => Fin.ext ?_)
  match a with
  | ⟨0, _⟩ => show 0 * 1024 + 1 * s.val = s.val; omega
  | ⟨1, _⟩ => show 0 * 2048 + 1 * k.val = k.val; omega

theorem dkv0_at (L : Laid m A) (c : Dev nD) (k : Fin 2048) (j : Fin 128) :
    dkv0 m c (ix2 k j) = A.dkv (ix2 k (half c.val j)) := by
  rw [← L.dkv c]
  refine congrArg (m ((c : Thread nD τ).loc main_arg1)) (funext fun a => Fin.ext ?_)
  match a with
  | ⟨0, _⟩ => show 0 * 2048 + 1 * k.val = k.val; omega
  | ⟨1, _⟩ => show 0 * 128 + 1 * j.val = j.val; omega

theorem uk0_at (L : Laid m A) (c : Dev nD) (j : Fin 128) (n : Fin 2048) :
    uk0 m c (ix2 j n) = A.uk (ix2 (half c.val j) n) := by
  rw [← L.uk c]
  refine congrArg (m ((c : Thread nD τ).loc main_arg2)) (funext fun a => Fin.ext ?_)
  match a with
  | ⟨0, _⟩ => show 0 * 128 + 1 * j.val = j.val; omega
  | ⟨1, _⟩ => show 0 * 2048 + 1 * n.val = n.val; omega

theorem uv0_at (L : Laid m A) (c : Dev nD) (j : Fin 128) (n : Fin 2048) :
    uv0 m c (ix2 j n) = A.uv (ix2 (half c.val j) n) := by
  rw [← L.uv c]
  refine congrArg (m ((c : Thread nD τ).loc main_arg3)) (funext fun a => Fin.ext ?_)
  match a with
  | ⟨0, _⟩ => show 0 * 128 + 1 * j.val = j.val; omega
  | ⟨1, _⟩ => show 0 * 2048 + 1 * n.val = n.val; omega

theorem kr0_at (L : Laid m A) (c : Dev nD) (k : Fin 2048) (r : Fin 32) : kr0 m c (ix2 k r) = A.wkr (ix2 k r) := by
  rw [← L.wkr c]
  refine congrArg (m ((c : Thread nD τ).loc main_arg6)) (funext fun a => Fin.ext ?_)
  match a with
  | ⟨0, _⟩ => show 0 * 2048 + 1 * k.val = k.val; omega
  | ⟨1, _⟩ => show 0 * 32 + 1 * r.val = r.val; omega

theorem wqv_at (L : Laid m A) (c : Dev nD) (k : Fin 2048) (n : Fin 512) :
    wqv m c (ix2 k n) = A.wq (ix2 k (grpCol (grp c) n)) := by
  rw [← L.wq c]
  refine congrArg (m ((c : Thread nD τ).loc main_arg4)) (funext fun a => Fin.ext ?_)
  match a with
  | ⟨0, _⟩ => show k0_off1 c 0 + 1 * k.val = k.val; rw [k0_off1_eq]; show 0 + 1 * k.val = k.val; omega
  | ⟨1, _⟩ =>
    show k0_off1 c 1 + 1 * n.val = 512 * (grp c).val + n.val
    rw [k0_off1_eq, grp_val]
    show 1024 * (c.val % 2) + 512 * (c.val / 2) + 1 * n.val = 512 * (2 * (c.val % 2) + c.val / 2) + n.val
    omega

theorem wqrv_at (L : Laid m A) (c : Dev nD) (k : Fin 2048) (n : Fin 128) :
    wqrv m c (ix2 k n) = A.wqr (ix2 k (grpColR (grp c) n)) := by
  rw [← L.wqr c]
  refine congrArg (m ((c : Thread nD τ).loc main_arg5)) (funext fun a => Fin.ext ?_)
  match a with
  | ⟨0, _⟩ => show k0_off2 c 0 + 1 * k.val = k.val; rw [k0_off2_eq]; show 0 + 1 * k.val = k.val; omega
  | ⟨1, _⟩ =>
    show k0_off2 c 1 + 1 * n.val = 128 * (grp c).val + n.val
    rw [k0_off2_eq, grp_val]
    show 256 * (c.val % 2) + 128 * (c.val / 2) + 1 * n.val = 128 * (2 * (c.val % 2) + c.val / 2) + n.val
    omega

/-- Where the columns of the heads of `c` are among those of its own half of an up-projection. -/
theorem own_idx (c : Dev nD) (j : Fin 128) (n : Fin 512) :
    (Rect.unit (s := S128x2048) (k0_off6 c) S128x512.size (k0_off6_inb c)).toLoadRect.idx (ix2 j n : S128x512.Idx)
      = (ix2 j (grpCol (grp c) n) : S128x2048.Idx) := by
  funext a; apply Fin.ext
  match a with
  | ⟨0, _⟩ => show k0_off6 c 0 + 1 * j.val = j.val; rw [k0_off6_eq]; show 0 + 1 * j.val = j.val; omega
  | ⟨1, _⟩ =>
    show k0_off6 c 1 + 1 * n.val = 512 * (grp c).val + n.val
    rw [k0_off6_eq, grp_val]
    show 1024 * (c.val % 2) + 512 * (c.val / 2) + 1 * n.val = 512 * (2 * (c.val % 2) + c.val / 2) + n.val
    omega

theorem uko_at (L : Laid m A) (c : Dev nD) (j : Fin 128) (n : Fin 512) :
    uko m c (ix2 j n) = A.uk (ix2 (half c.val j) (grpCol (grp c) n)) := by
  rw [← uk0_at L c]
  exact congrArg (uk0 m c) (own_idx c j n)

theorem uvo_at (L : Laid m A) (c : Dev nD) (j : Fin 128) (n : Fin 512) :
    uvo m c (ix2 j n) = A.uv (ix2 (half c.val j) (grpCol (grp c) n)) := by
  rw [← uv0_at L c]
  exact congrArg (uv0 m c) (own_idx c j n)

/-- Where they are among those of the half its neighbour sends it. -/
theorem sent_col (c : Dev nD) : k0_off5 (yp c) = ![0, 512 * (grp c).val] := by revert c; decide

theorem ukr_at (L : Laid m A) (c : Dev nD) (j : Fin 128) (n : Fin 512) :
    ukr m c (ix2 j n) = A.uk (ix2 (half (yp c).val j) (grpCol (grp c) n)) := by
  rw [← uk0_at L (yp c)]
  refine congrArg (uk0 m (yp c)) (funext fun a => Fin.ext ?_)
  match a with
  | ⟨0, _⟩ => show k0_off5 (yp c) 0 + 1 * j.val = j.val; rw [sent_col]; show 0 + 1 * j.val = j.val; omega
  | ⟨1, _⟩ =>
    show k0_off5 (yp c) 1 + 1 * n.val = 512 * (grp c).val + n.val
    rw [sent_col]; show 512 * (grp c).val + 1 * n.val = 512 * (grp c).val + n.val; omega

theorem uvr_at (L : Laid m A) (c : Dev nD) (j : Fin 128) (n : Fin 512) :
    uvr m c (ix2 j n) = A.uv (ix2 (half (yp c).val j) (grpCol (grp c) n)) := by
  rw [← uv0_at L (yp c)]
  refine congrArg (uv0 m (yp c)) (funext fun a => Fin.ext ?_)
  match a with
  | ⟨0, _⟩ => show k0_off5 (yp c) 0 + 1 * j.val = j.val; rw [sent_col]; show 0 + 1 * j.val = j.val; omega
  | ⟨1, _⟩ =>
    show k0_off5 (yp c) 1 + 1 * n.val = 512 * (grp c).val + n.val
    rw [sent_col]; show 512 * (grp c).val + 1 * n.val = 512 * (grp c).val + n.val; omega

/-! ## The row blocks of `Wo` -/

theorem slot_at (w : Vec Ideal S512x2048 .f32) (j : Fin 512) (n : Fin 2048) : slot w (ix3 0 j n) = w (ix2 j n) := by
  pointwise [slot]

theorem row_own (c : Dev nD) : k0_off3 c = ![512 * (grp c).val, 0] := by revert c; decide
theorem row_xn (c : Dev nD) : k0_off4 c = ![512 * (grp (xn c)).val, 0] := by revert c; decide
theorem row_yp (c : Dev nD) : k0_off7 c = ![512 * (grp (yp c)).val, 0] := by revert c; decide
theorem row_across (c : Dev nD) : k0_off8 c = ![512 * (grp (xn (yp c))).val, 0] := by revert c; decide

theorem wo1_at (L : Laid m A) (c : Dev nD) (j : Fin 512) (n : Fin 2048) :
    wo1 m c (ix3 0 j n) = A.wo (ix2 (grpCol (grp c) j) n) := by
  unfold wo1; rw [slot_at, ← L.wo c]
  refine congrArg (m ((c : Thread nD τ).loc main_arg7)) (funext fun a => Fin.ext ?_)
  match a with
  | ⟨0, _⟩ =>
    show k0_off3 c 0 + 1 * j.val = 512 * (grp c).val + j.val
    rw [row_own]; show 512 * (grp c).val + 1 * j.val = _; omega
  | ⟨1, _⟩ => show k0_off3 c 1 + 1 * n.val = n.val; rw [row_own]; show 0 + 1 * n.val = n.val; omega

theorem wo2_at (L : Laid m A) (c : Dev nD) (j : Fin 512) (n : Fin 2048) :
    wo2 m c (ix3 0 j n) = A.wo (ix2 (grpCol (grp (xn c)) j) n) := by
  unfold wo2; rw [slot_at, ← L.wo c]
  refine congrArg (m ((c : Thread nD τ).loc main_arg7)) (funext fun a => Fin.ext ?_)
  match a with
  | ⟨0, _⟩ =>
    show k0_off4 c 0 + 1 * j.val = 512 * (grp (xn c)).val + j.val
    rw [row_xn]; show 512 * (grp (xn c)).val + 1 * j.val = _; omega
  | ⟨1, _⟩ => show k0_off4 c 1 + 1 * n.val = n.val; rw [row_xn]; show 0 + 1 * n.val = n.val; omega

theorem wo3_at (L : Laid m A) (c : Dev nD) (j : Fin 512) (n : Fin 2048) :
    wo3 m c (ix3 0 j n) = A.wo (ix2 (grpCol (grp (yp c)) j) n) := by
  unfold wo3; rw [slot_at, ← L.wo c]
  refine congrArg (m ((c : Thread nD τ).loc main_arg7)) (funext fun a => Fin.ext ?_)
  match a with
  | ⟨0, _⟩ =>
    show k0_off7 c 0 + 1 * j.val = 512 * (grp (yp c)).val + j.val
    rw [row_yp]; show 512 * (grp (yp c)).val + 1 * j.val = _; omega
  | ⟨1, _⟩ => show k0_off7 c 1 + 1 * n.val = n.val; rw [row_yp]; show 0 + 1 * n.val = n.val; omega

theorem wo4_at (L : Laid m A) (c : Dev nD) (j : Fin 512) (n : Fin 2048) :
    wo4 m c (ix3 0 j n) = A.wo (ix2 (grpCol (grp (xn (yp c))) j) n) := by
  unfold wo4; rw [slot_at, ← L.wo c]
  refine congrArg (m ((c : Thread nD τ).loc main_arg7)) (funext fun a => Fin.ext ?_)
  match a with
  | ⟨0, _⟩ =>
    show k0_off8 c 0 + 1 * j.val = 512 * (grp (xn (yp c))).val + j.val
    rw [row_across]; show 512 * (grp (xn (yp c))).val + 1 * j.val = _; omega
  | ⟨1, _⟩ => show k0_off8 c 1 + 1 * n.val = n.val; rw [row_across]; show 0 + 1 * n.val = n.val; omega

end Cert.Mla

end
-- ==== Proof.Heads.lean ====
/-
# A device's heads are four of the sixteen

The values device `c` computes, read at an index: its half of the compressed activations, the queries, keys and values of
its four heads, and their outputs. The keys are a sum over the device's own half of the compressed axis and the half its
neighbour sends, which together are the whole axis.
-/
module

public import proofs.«01_k».proof.Proof.Blocks

@[expose] public section

set_option maxRecDepth 16384

noncomputable section

namespace Cert.Mla

open Cert.KernelIdeal Cert.KernelIdeal.Gen
open Idealize.ShloMosaic
open Idealize.ShloMosaic.TcCoe

variable {m : (ℓ : Loc nD τ sig) → Buf (Elt Ideal) ℓ} {A : Arrays}

/-- A sum over the own half and the neighbour's half is the sum over the whole axis. -/
theorem two_halves (c : Dev nD) (f : Fin 256 → EReal) :
    (∑ j, f (half c.val j)) + ∑ j, f (half (yp c).val j) = ∑ j, f j := by
  have h0 : ∀ y, y % 2 = 0 → (∑ j, f (half y j)) = ∑ j : Fin 128, f ⟨j.val, by omega⟩ := fun y hy =>
    Finset.sum_congr rfl fun j _ => congrArg f (Fin.ext (by show 128 * (y % 2) + j.val = j.val; omega))
  have h1 : ∀ y, y % 2 = 1 → (∑ j, f (half y j)) = ∑ j : Fin 128, f ⟨128 + j.val, by omega⟩ := fun y hy =>
    Finset.sum_congr rfl fun j _ => congrArg f (Fin.ext (by show 128 * (y % 2) + j.val = 128 + j.val; omega))
  have hy := yp_mod c
  rw [Fin.sum_univ_two_halves 128 128 rfl f]
  rcases Nat.mod_two_eq_zero_or_one c.val with e | e
  · rw [h0 _ e, h1 _ (by omega)]
  · rw [h1 _ e, h0 _ (by omega), add_comm]

theorem v73_at (L : Laid m A) (c : Dev nD) (s : Fin 1024) (k : Fin 2048) : v73 m c (ix2 s k) = A.x (ix2 s k) := by
  unfold v73; rw [pay1_at, x0_at L]

theorem v78_at (L : Laid m A) (c : Dev nD) (s : Fin 1024) (j : Fin 128) : v78 m c (ix2 s j) = A.comp s (half c.val j) := by
  unfold v78; rw [pay2_at]
  exact Finset.sum_congr rfl fun k _ => by rw [x0_at L, dkv0_at L]

theorem cr_at (L : Laid m A) (c : Dev nD) (s : Fin 1024) (j : Fin 128) : cr m c (ix2 s j) = A.comp s (half (yp c).val j) := by
  unfold cr cs; rw [pay3_at]; exact v78_at L (yp c) s j

theorem v108_at (L : Laid m A) (c : Dev nD) (s : Fin 1024) (r : Fin 32) : v108 m c (ix2 s r) = A.keyR s r := by
  unfold v108; rw [pay4_at]
  exact Finset.sum_congr rfl fun k _ => by rw [v73_at L, kr0_at L]

theorem v112_at (L : Laid m A) (c : Dev nD) (s : Fin 1024) (n : Fin 512) :
    v112 m c (ix2 s n) = A.query s (grpCol (grp c) n) * scale := by
  unfold v112; rw [pay5_at]
  exact congrArg (· * scale) (Finset.sum_congr rfl fun k _ => by rw [v73_at L, wqv_at L])

theorem v116_at (L : Laid m A) (c : Dev nD) (s : Fin 1024) (n : Fin 128) :
    v116 m c (ix2 s n) = A.queryR s (grpColR (grp c) n) * scale := by
  unfold v116; rw [pay6_at]
  exact congrArg (· * scale) (Finset.sum_congr rfl fun k _ => by rw [v73_at L, wqrv_at L])

theorem v155_at (L : Laid m A) (c : Dev nD) (t : Fin 1024) (n : Fin 512) :
    v155 m c (ix2 t n) = A.key t (grpCol (grp c) n) := by
  unfold v155; rw [pay7_at]
  simp only [v78_at L, cr_at L, uko_at L, ukr_at L]
  exact two_halves c fun j => A.comp t j * A.uk (ix2 j (grpCol (grp c) n))

theorem v165_at (L : Laid m A) (c : Dev nD) (t : Fin 1024) (n : Fin 512) :
    v165 m c (ix2 t n) = A.val t (grpCol (grp c) n) := by
  unfold v165 v159; rw [pay9_at]
  simp only [pay8_at, v78_at L, cr_at L, uvo_at L, uvr_at L]
  exact two_halves c fun j => A.comp t j * A.uv (ix2 j (grpCol (grp c) n))

/-- Head `h` of group `g`, among the sixteen. -/
def headIn (g h : Fin 4) : Fin 16 := ⟨4 * g.val + h.val, by omega⟩

theorem grpCol_head (g h : Fin 4) (o : ℕ) (ho : o = 128 * h.val) (e : Fin 128) (p : o + e.val < 512) :
    grpCol g ⟨o + e.val, p⟩ = Arrays.col (headIn g h) e :=
  Fin.ext (by show 512 * g.val + (o + e.val) = 128 * (4 * g.val + h.val) + e.val; omega)

theorem grpColR_head (g h : Fin 4) (o : ℕ) (ho : o = 32 * h.val) (r : Fin 32) (p : o + r.val < 128) :
    grpColR g ⟨o + r.val, p⟩ = Arrays.colR (headIn g h) r :=
  Fin.ext (by show 128 * g.val + (o + r.val) = 32 * (4 * g.val + h.val) + r.val; omega)

/-- **A head of device `c`.** -/
theorem head_at (L : Laid m A) (H : A.Finite) (c : Dev nD) (h : Fin 4) (s : Fin 1024) (d : Fin 128) :
    head m c h (ix2 s d) = A.out (headIn (grp c) h) s d := by
  rw [← H.attend_eq]
  have hv := v165_at L c
  unfold v165 at hv
  match h with
  | 0 =>
    refine (pay10_at ..).trans ?_
    simp only [v108_at L, v112_at L, v116_at L, v155_at L, hv, grpCol_head (grp c) 0 0 rfl, grpColR_head (grp c) 0 0 rfl]
  | 1 =>
    refine (pay11_at ..).trans ?_
    simp only [v108_at L, v112_at L, v116_at L, v155_at L, v165_at L, grpCol_head (grp c) 1 128 rfl, grpColR_head (grp c) 1 32 rfl]
  | 2 =>
    refine (pay12_at ..).trans ?_
    simp only [v108_at L, v112_at L, v116_at L, v155_at L, v165_at L, grpCol_head (grp c) 2 256 rfl, grpColR_head (grp c) 2 64 rfl]
  | 3 =>
    refine (pay13_at ..).trans ?_
    simp only [v108_at L, v112_at L, v116_at L, v155_at L, v165_at L, grpCol_head (grp c) 3 384 rfl, grpColR_head (grp c) 3 96 rfl]

/-- The four heads' outputs side by side are columns of the layer's. -/
theorem om_at (L : Laid m A) (H : A.Finite) (c : Dev nD) (s : Fin 1024) (n : Fin 512) :
    om m c (ix2 s n) = A.outs s (grpCol (grp c) n) := by
  have e : inHead (ix2 s n : S1024x512.Idx) = (ix2 s ⟨n.val % 128, Nat.mod_lt _ (by decide)⟩ : S1024x128.Idx) := by
    funext a
    match a with
    | ⟨0, _⟩ => rfl
    | ⟨1, _⟩ => rfl
  have ec : grpCol (grp c) n
      = Arrays.col (headIn (grp c) (headOf (ix2 s n : S1024x512.Idx))) ⟨n.val % 128, Nat.mod_lt _ (by decide)⟩ :=
    Fin.ext (by show 512 * (grp c).val + n.val = 128 * (4 * (grp c).val + n.val / 128) + n.val % 128; omega)
  show head m c (headOf (ix2 s n : S1024x512.Idx)) (inHead (ix2 s n : S1024x512.Idx)) = _
  rw [e, head_at L H, ec, Arrays.outs_col]

/-! ## The output projection -/

/-- The four groups a device adds up, in its own order, are all four. -/
theorem four_groups (c : Dev nD) (f : Fin 4 → EReal) :
    f (grp c) + f (grp (xn c)) + f (grp (yp c)) + f (grp (xn (yp c))) = ∑ g, f g := by
  have key : ∀ c : Dev nD, (Finset.univ : Finset (Fin 4)) = {grp c, grp (xn c), grp (yp c), grp (xn (yp c))}
      ∧ grp c ≠ grp (xn c) ∧ grp c ≠ grp (yp c) ∧ grp c ≠ grp (xn (yp c))
      ∧ grp (xn c) ≠ grp (yp c) ∧ grp (xn c) ≠ grp (xn (yp c)) ∧ grp (yp c) ≠ grp (xn (yp c)) := by decide
  obtain ⟨e, h1, h2, h3, h4, h5, h6⟩ := key c
  rw [e, Finset.sum_insert (by simp [h1, h2, h3]), Finset.sum_insert (by simp [h4, h5]), Finset.sum_insert (by simp [h6]),
    Finset.sum_singleton, add_assoc, add_assoc]

/-- A sum over 2048 rows is the sum over the four groups of their 512. -/
theorem sum_groups (f : Fin 2048 → EReal) : ∑ j, f j = ∑ g, ∑ n, f (grpCol g n) := by
  rw [Fin.sum_univ_tiles 4 512 rfl f]
  refine Finset.sum_congr rfl fun g _ => Finset.sum_congr rfl fun n _ => congrArg f (Fin.ext ?_)
  show g.val * 512 + n.val = 512 * g.val + n.val
  omega

/-- **The result of every device is the layer's output.** -/
theorem res_at (L : Laid m A) (H : A.Finite) (c : Dev nD) (s : Fin 1024) (n : Fin 2048) :
    res m c (ix2 s n) = A.result s n := by
  unfold res; rw [pay17_at]
  unfold res3; rw [pay16_at]
  unfold res2; rw [pay15_at]
  unfold res1; rw [pay14_at]
  simp only [om_at L H, wo1_at L, wo2_at L, wo3_at L, wo4_at L]
  unfold Arrays.result
  rw [sum_groups]
  exact four_groups c fun g => ∑ j, A.outs s (grpCol g j) * A.wo (ix2 (grpCol g j) n)

end Cert.Mla

end
-- ==== Proof.RefReads.lean ====
/-
# The reference is the attention of the whole arrays

The reference's operations, one after another, read at an index over the extended reals.
-/
module

public import proofs.«01_k».proof.Proof.Whole
public import proofs.«01_k».proof.Proof.Gen.ReferenceIdeal.Read

@[expose] public section

set_option maxRecDepth 16384

noncomputable section

namespace Cert.Mla.Arrays

open Cert.ReferenceIdeal.Read Cert.ReferenceIdeal
open Idealize.ShloMosaic

variable (A : Arrays)

theorem ref_comp (s : Fin 1024) (j : Fin 256) : val_main_v0 (F := Ideal) A.x A.dkv (ix2 s j) = A.comp s j := by
  pointwise [val_main_v0, comp]

theorem ref_key (s : Fin 1024) (n : Fin 2048) : val_main_v1 (F := Ideal) A.x A.dkv A.uk (ix2 s n) = A.key s n := by
  pointwise [val_main_v1, key, ref_comp]

theorem ref_val (s : Fin 1024) (n : Fin 2048) : val_main_v3 (F := Ideal) A.x A.dkv A.uv (ix2 s n) = A.val s n := by
  pointwise [val_main_v3, val, ref_comp]

theorem ref_query (s : Fin 1024) (n : Fin 2048) : val_main_v5 (F := Ideal) A.x A.wq (ix2 s n) = A.query s n := by
  pointwise [val_main_v5, query]

theorem ref_queryR (s : Fin 1024) (n : Fin 512) : val_main_v7 (F := Ideal) A.x A.wqr (ix2 s n) = A.queryR s n := by
  pointwise [val_main_v7, queryR]

theorem ref_keyR (s : Fin 1024) (r : Fin 32) : val_main_v9 (F := Ideal) A.x A.wkr (ix2 s r) = A.keyR s r := by
  pointwise [val_main_v9, keyR]

theorem col_eq (h : Fin 16) (d : Fin 128) (p : h.val * 128 + d.val < 2048) : (⟨h.val * 128 + d.val, p⟩ : Fin 2048) = col h d :=
  Fin.ext (by show h.val * 128 + d.val = 128 * h.val + d.val; omega)
theorem colR_eq (h : Fin 16) (r : Fin 32) (p : h.val * 32 + r.val < 512) : (⟨h.val * 32 + r.val, p⟩ : Fin 512) = colR h r :=
  Fin.ext (by show h.val * 32 + r.val = 32 * h.val + r.val; omega)

theorem ref_key_head (s : Fin 1024) (h : Fin 16) (e : Fin 128) :
    val_main_v2 (F := Ideal) A.x A.dkv A.uk (ix3 s h e) = A.key s (col h e) := by
  pointwise [val_main_v2]
  rw [ref_key, col_eq]

theorem ref_val_head (s : Fin 1024) (h : Fin 16) (e : Fin 128) :
    val_main_v4 (F := Ideal) A.x A.dkv A.uv (ix3 s h e) = A.val s (col h e) := by
  pointwise [val_main_v4]
  rw [ref_val, col_eq]

theorem ref_query_head (s : Fin 1024) (h : Fin 16) (e : Fin 128) :
    val_main_v6 (F := Ideal) A.x A.wq (ix3 s h e) = A.query s (col h e) := by
  pointwise [val_main_v6]
  rw [ref_query, col_eq]

theorem ref_queryR_head (s : Fin 1024) (h : Fin 16) (r : Fin 32) :
    val_main_v8 (F := Ideal) A.x A.wqr (ix3 s h r) = A.queryR s (colR h r) := by
  pointwise [val_main_v8]
  rw [ref_queryR, colR_eq]

theorem ref_score (h : Fin 16) (s t : Fin 1024) :
    val_main_v16 (F := Ideal) A.x A.dkv A.uk A.wq A.wqr A.wkr (ix3 h s t) = A.score h s t := by
  pointwise [val_main_v16, val_main_v14, val_main_v11, val_main_v13, val_main_v15, val_main_cst, val_main_v12, val_main_v10,
    ref_keyR, ref_query_head, ref_key_head, ref_queryR_head, score, scale]

/-- The pattern the maximum starts from is the least of the extended reals. -/
theorem ofBits_neg_inf : Ideal.ofBits .f32 0xFF800000#32 = ⊥ := by
  simp [Ideal.ofBits, Ideal.ieee]

theorem ref_top (h : Fin 16) (s : Fin 1024) :
    val_main_v17 (F := Ideal) A.x A.dkv A.uk A.wq A.wqr A.wkr (ix2 h s) = A.top h s := by
  pointwise [val_main_v17, ref_score, val_main_cst_0]
  rw [ofBits_neg_inf]; rfl

theorem ref_weight (h : Fin 16) (s t : Fin 1024) :
    val_main_v21 (F := Ideal) A.x A.dkv A.uk A.wq A.wqr A.wkr (ix3 h s t) = Ideal.exp (A.score h s t - A.top h s) := by
  pointwise [val_main_v21, val_main_v20, val_main_v19, val_main_v18, ref_top, ref_score]

theorem ref_out (h : Fin 16) (s : Fin 1024) (d : Fin 128) :
    val_main_v27 (F := Ideal) A.x A.dkv A.uk A.uv A.wq A.wqr A.wkr (ix3 s h d) = A.out h s d := by
  pointwise [val_main_v27, val_main_v26, val_main_v25, val_main_v24, val_main_v23, val_main_v22, val_main_cst_1, ref_weight,
    ref_val_head, out]

theorem ref_outs (s : Fin 1024) (n : Fin 2048) :
    val_main_v28 (F := Ideal) A.x A.dkv A.uk A.uv A.wq A.wqr A.wkr (ix2 s n) = A.outs s n := by
  pointwise [val_main_v28, ref_out, outs]

/-- **The reference's result.** -/
theorem ref_result (s : Fin 1024) (n : Fin 2048) :
    val_main_v29 (F := Ideal) A.x A.dkv A.uk A.uv A.wq A.wqr A.wkr A.wo (ix2 s n) = A.result s n := by
  pointwise [val_main_v29, ref_outs, result]

end Cert.Mla.Arrays

end
-- ==== Proof.Finite.lean ====
/-
# The precondition read

The precondition compares the absolute value of each entry with infinity. An entry less than infinity in absolute value
is a real number; a device holds half of `Wdkv` and `Wuk`, and devices 0 and 1 between them the whole.
-/
module

public import proofs.«01_k».proof.Defs
public import proofs.«01_k».proof.Proof.Blocks

@[expose] public section

noncomputable section

namespace Cert.Mla

open Cert.KernelIdeal Cert.KernelIdeal.Gen
open Idealize.ShloMosaic
open Idealize.ShloMosaic.TcCoe

/-- The side conditions the precondition states, over a device's blocks and over the whole arrays. -/
theorem facts_pre : Cert.Pre_finite_KernelIdeal.Facts := by
  constructor <;> decide
theorem facts_pre_whole : Cert.Pre_finite_ReferenceIdeal.Facts := by
  constructor <;> decide

/-- The word the entries are compared with is infinity. -/
theorem ofBits_inf : Ideal.ofBits .f32 0x7F800000#32 = ⊤ := by
  simp [Ideal.ofBits, Ideal.ieee]

/-- An array whose every entry compares less than infinity in absolute value has real entries. -/
theorem isReal_of_below {S U : Shape} {dims : Fin U.rank → Fin S.rank} (b : U.BroadcastsInDim S dims) (a : FVec Ideal S .f32)
    (h : cmpf .olt (Host.absf a) (broadcastInDim S dims b (constant (F := Ideal) U .f32 0x7F800000#32)) = fun _ => 1#1)
    (i : S.Idx) : IsReal (a i) := by
  have h' : Ideal.cmp .olt (max (a i) (-(a i))) (Ideal.ofBits .f32 0x7F800000#32) = 1#1 := congrFun h i
  rw [ofBits_inf] at h'
  refine isReal_of_abs_lt ?_
  by_contra hn
  simp [Ideal.cmp, hn] at h'

variable {m : (ℓ : Loc nD τ sig) → Buf (Elt Ideal) ℓ} {A : Arrays}

/-- The precondition makes the whole arrays of the scores finite. -/
theorem finite_of_pre (L : Laid m A) (h : Cert.Pre_KernelIdeal_finite_KernelIdeal (hPre_finite_KernelIdeal := facts_pre) m) :
    A.Finite := by
  letI := facts_pre
  have part (j : Fin 256) : ∃ (c : Dev nD) (j' : Fin 128), j = half c.val j' := by
    by_cases hj : j.val < 128
    · exact ⟨0, ⟨j.val, hj⟩, Fin.ext (by show j.val = 128 * (0 % 2) + j.val; omega)⟩
    · exact ⟨1, ⟨j.val - 128, by omega⟩, Fin.ext (by show j.val = 128 * (1 % 2) + (j.val - 128); omega)⟩
  constructor
  · intro s k
    rw [← L.x 0]; exact isReal_of_below _ _ (h 0).1 _
  · intro s k
    obtain ⟨c, j, rfl⟩ := part k
    rw [← L.dkv c]; exact isReal_of_below _ _ (h c).2.1 _
  · intro s k
    obtain ⟨c, j, rfl⟩ := part s
    rw [← L.uk c]; exact isReal_of_below _ _ (h c).2.2.1 _
  · intro s k
    rw [← L.wq 0]; exact isReal_of_below _ _ (h 0).2.2.2.1 _
  · intro s k
    rw [← L.wqr 0]; exact isReal_of_below _ _ (h 0).2.2.2.2.1 _
  · intro s k
    rw [← L.wkr 0]; exact isReal_of_below _ _ (h 0).2.2.2.2.2 _

end Cert.Mla

end
-- ==== Proof.Algebraic.lean ====
/-
# The kernel's result is the reference's

From arguments laid out over the mesh, every device's result is the reference's, over the extended reals.
-/
module

public import proofs.«01_k».proof.Proof.Heads
public import proofs.«01_k».proof.Proof.RefReads
public import proofs.«01_k».proof.Proof.Finite
public import proofs.«01_k».proof.Proof.Frames

@[expose] public section

noncomputable section

namespace Cert.Mla

open Cert.KernelIdeal Cert.KernelIdeal.Gen
open Idealize.ShloMosaic Idealize.SL.Sem
open Idealize.ShloMosaic.TcCoe

/-- The reference's memory of its one device. -/
abbrev RefMem : Type :=
  (ℓ : Loc Cert.ReferenceIdeal.nD Cert.ReferenceIdeal.τ Cert.ReferenceIdeal.sig) → Buf (Elt Ideal) ℓ

/-- The whole arrays: the reference's arguments. -/
def arrays (m' : RefMem) : Arrays where
  x := m' (((0 : Dev Cert.ReferenceIdeal.nD).tc : Thread Cert.ReferenceIdeal.nD Cert.ReferenceIdeal.τ).loc Cert.ReferenceIdeal.main_arg0)
  dkv := m' (((0 : Dev Cert.ReferenceIdeal.nD).tc : Thread Cert.ReferenceIdeal.nD Cert.ReferenceIdeal.τ).loc Cert.ReferenceIdeal.main_arg1)
  uk := m' (((0 : Dev Cert.ReferenceIdeal.nD).tc : Thread Cert.ReferenceIdeal.nD Cert.ReferenceIdeal.τ).loc Cert.ReferenceIdeal.main_arg2)
  uv := m' (((0 : Dev Cert.ReferenceIdeal.nD).tc : Thread Cert.ReferenceIdeal.nD Cert.ReferenceIdeal.τ).loc Cert.ReferenceIdeal.main_arg3)
  wq := m' (((0 : Dev Cert.ReferenceIdeal.nD).tc : Thread Cert.ReferenceIdeal.nD Cert.ReferenceIdeal.τ).loc Cert.ReferenceIdeal.main_arg4)
  wqr := m' (((0 : Dev Cert.ReferenceIdeal.nD).tc : Thread Cert.ReferenceIdeal.nD Cert.ReferenceIdeal.τ).loc Cert.ReferenceIdeal.main_arg5)
  wkr := m' (((0 : Dev Cert.ReferenceIdeal.nD).tc : Thread Cert.ReferenceIdeal.nD Cert.ReferenceIdeal.τ).loc Cert.ReferenceIdeal.main_arg6)
  wo := m' (((0 : Dev Cert.ReferenceIdeal.nD).tc : Thread Cert.ReferenceIdeal.nD Cert.ReferenceIdeal.τ).loc Cert.ReferenceIdeal.main_arg7)

/-- Device `c`'s block of the columns, which the second mesh axis cuts in two, is half `c % 2`. -/
theorem block_col (v : Mat 2048 256) (c : Dev nD) (k : Fin 2048) (j : Fin 128) :
    Layout.blockN ⟨2, ![2048, 128]⟩ ⟨2, ![2048, 256]⟩ (Layout.meshBlock [2, 2] ![[], [1]] c) v (by decide) (ix2 k j)
      = v (ix2 k (half c.val j)) := by
  refine congrArg v (funext fun a => Fin.ext ?_)
  match a with
  | ⟨0, _⟩ =>
    have e : ∀ c : Dev nD, ((Layout.meshBlock [2, 2] ![[], [1]] c) 0).val = 0 := by decide
    show ((Layout.meshBlock [2, 2] ![[], [1]] c) 0).val * 2048 + k.val = k.val
    rw [e]; omega
  | ⟨1, _⟩ =>
    have e : ∀ c : Dev nD, ((Layout.meshBlock [2, 2] ![[], [1]] c) 1).val = c.val % 2 := by decide
    show ((Layout.meshBlock [2, 2] ![[], [1]] c) 1).val * 128 + j.val = 128 * (c.val % 2) + j.val
    rw [e]; omega

/-- And of the rows likewise. -/
theorem block_row (v : Mat 256 2048) (c : Dev nD) (j : Fin 128) (n : Fin 2048) :
    Layout.blockN ⟨2, ![128, 2048]⟩ ⟨2, ![256, 2048]⟩ (Layout.meshBlock [2, 2] ![[1], []] c) v (by decide) (ix2 j n)
      = v (ix2 (half c.val j) n) := by
  refine congrArg v (funext fun a => Fin.ext ?_)
  match a with
  | ⟨0, _⟩ =>
    have e : ∀ c : Dev nD, ((Layout.meshBlock [2, 2] ![[1], []] c) 0).val = c.val % 2 := by decide
    show ((Layout.meshBlock [2, 2] ![[1], []] c) 0).val * 128 + j.val = 128 * (c.val % 2) + j.val
    rw [e]; omega
  | ⟨1, _⟩ =>
    have e : ∀ c : Dev nD, ((Layout.meshBlock [2, 2] ![[1], []] c) 1).val = 0 := by decide
    show ((Layout.meshBlock [2, 2] ![[1], []] c) 1).val * 2048 + n.val = n.val
    rw [e]; omega

/-- The reference's result is the layer's output. -/
theorem ref_value (m' : RefMem) :
    (Cert.ReferenceIdeal.Value.res_main_v29 m' 0 : Mat 1024 2048) = fun i => (arrays m').result (i 0) (i 1) := by
  rw [Cert.ReferenceIdeal.Read.val_main_v29_eq]
  funext i
  obtain ⟨s, n, rfl⟩ : ∃ (s : Fin 1024) (n : Fin 2048), i = ix2 s n := ⟨i 0, i 1, eq_ix2 i⟩
  exact (arrays m').ref_result s n

/-- **The value claim.** Where the arguments that enter the scores are finite, every device ends with the reference's result,
and both programs leave their arguments as they were. -/
theorem algebraic : Cert.algebraic_KernelIdeal_ReferenceIdeal_pre_finite_KernelIdeal
    (hPre_finite_KernelIdeal := facts_pre) := by
  intro m g m' g' hpre hlay
  have L : Laid m (arrays m') :=
    { x := fun c => (hlay c).1
      dkv := fun c k j => by rw [(hlay c).2.1]; exact block_col _ c k j
      uk := fun c j n => by rw [(hlay c).2.2.1]; exact block_row _ c j n
      uv := fun c j n => by rw [(hlay c).2.2.2.1]; exact block_row _ c j n
      wq := fun c => (hlay c).2.2.2.2.1
      wqr := fun c => (hlay c).2.2.2.2.2.1
      wkr := fun c => (hlay c).2.2.2.2.2.2.1
      wo := fun c => (hlay c).2.2.2.2.2.2.2 }
  have H := finite_of_pre L hpre
  have e (c : Dev nD) : (res m c : Mat 1024 2048) = Cert.ReferenceIdeal.Value.res_main_v29 m' 0 := by
    rw [ref_value]
    funext i
    obtain ⟨s, n, rfl⟩ : ∃ (s : Fin 1024) (n : Fin 2048), i = ix2 s n := ⟨i 0, i 1, eq_ix2 i⟩
    exact res_at L H c s n
  refine ⟨Cert.ReferenceIdeal.Value.res_main_v29 m' 0, ?_, ?_⟩
  · exact (θ_run defs _ _).mono (fun _ h c => ⟨(h.1 c).1.trans (e c), (h.1 c).2⟩) (run_res (F := Ideal) m g)
  · exact (θ_run Cert.ReferenceIdeal.defs _ _).mono (fun _ h => h 0) (Cert.ReferenceIdeal.Value.run (F := Ideal) m' g')

end Cert.Mla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mla.facts_pre, Cert.Mla.facts_pre_whole,
  Cert.Mla.frame_kernel, Cert.Mla.frame_ideal, fun m ρ _ => Cert.Mla.frame_ideal m ρ trivial,
  Cert.Mla.frame_reference, fun m ρ _ => Cert.Mla.frame_reference m ρ trivial, trivial, Cert.Mla.algebraic⟩

end Cert.Proof

end
